-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_on_benes_tables [hPre_finite_on_benes_tables : Cert.Pre_finite_on_benes_tables.Facts] (m : (ℓ : Loc Cert.KernelIdeal.nD Cert.KernelIdeal.τ Cert.KernelIdeal.sig) → Buf (Elt Ideal) ℓ) : Prop :=
  ∀ c : Dev Cert.KernelIdeal.nD,
    (Cert.Pre_finite_on_benes_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_on_benes_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_on_benes_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_on_benes_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_on_benes_tables [hPre_finite_on_benes_tables : Cert.Pre_finite_on_benes_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_on_benes_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_on_benes_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_on_benes_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_on_benes_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_on_benes_tables [hKernelIdeal : Cert.KernelIdeal.Facts] [hPre_finite_on_benes_tables : Cert.Pre_finite_on_benes_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_on_benes_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_on_benes_tables [hReferenceIdeal : Cert.ReferenceIdeal.Facts] [hPre_finite_on_benes_tables : Cert.Pre_finite_on_benes_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_on_benes_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_on_benes_tables [hKernelIdeal : Cert.KernelIdeal.Facts] [hReferenceIdeal : Cert.ReferenceIdeal.Facts] [hPre_finite_on_benes_tables : Cert.Pre_finite_on_benes_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_on_benes_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_on_benes_tables : Cert.Pre_finite_on_benes_tables.Facts),
    quiescent_Kernel (hKernel := hKernel)
    ∧ quiescent_KernelIdeal (hKernelIdeal := hKernelIdeal)
    ∧ quiescent_KernelIdeal_pre_finite_on_benes_tables (hKernelIdeal := hKernelIdeal) (hPre_finite_on_benes_tables := hPre_finite_on_benes_tables)
    ∧ quiescent_ReferenceIdeal (hReferenceIdeal := hReferenceIdeal)
    ∧ quiescent_ReferenceIdeal_pre_finite_on_benes_tables (hReferenceIdeal := hReferenceIdeal) (hPre_finite_on_benes_tables := hPre_finite_on_benes_tables)
    ∧ preserves_Kernel_KernelIdeal
    ∧ algebraic_KernelIdeal_ReferenceIdeal_pre_finite_on_benes_tables (hKernelIdeal := hKernelIdeal) (hReferenceIdeal := hReferenceIdeal) (hPre_finite_on_benes_tables := hPre_finite_on_benes_tables)
-- ==== Pre_finite_on_benes_tables.lean ====
abbrev S4096x4096 : Shape := ⟨2, ![4096, 4096]⟩
abbrev S23x8192 : Shape := ⟨2, ![23, 8192]⟩
abbrev S_ : Shape := ⟨0, ![]⟩

class Facts : Prop where
  bcast_S_S23x8192 : S_.BroadcastsInDim S23x8192 (![] : Fin 0 → Fin S23x8192.rank)
  bcast_S_S4096x4096 : S_.BroadcastsInDim S4096x4096 (![] : Fin 0 → Fin S4096x4096.rank)

variable [Facts]

def fn_part2 {F : FTy → Type} [FloatOps F] (main_arg2 : IVec S23x8192 32) (main_arg3 : IVec S23x8192 32) (main_v23 : IVec S23x8192 32) (main_v31 : IVec S23x8192 32) (main_v34 : IVec S4096x4096 1) (main_v35 : FVec F S23x8192 .f32) (main_cst_9 : FVec F S_ .f32) : IVec S4096x4096 1 × IVec S23x8192 1 × IVec S23x8192 1 × IVec S23x8192 1 :=
  let main_v36 : FVec F S23x8192 .f32 := broadcastInDim S23x8192 ![] bcast_S_S23x8192 main_cst_9
  let main_v37 : IVec S23x8192 1 := cmpf .olt main_v35 main_v36
  let main_v38 : IVec S23x8192 1 := cmpi .eq main_arg2 main_v23
  let main_v39 : IVec S23x8192 1 := cmpi .eq main_arg3 main_v31
  (main_v34, main_v37, main_v38, main_v39)

def fn_part1 {F : FTy → Type} [FloatOps F] (main_arg0 : FVec F S4096x4096 .f32) (main_arg1 : FVec F S23x8192 .f32) (main_arg2 : IVec S23x8192 32) (main_arg3 : IVec S23x8192 32) (main_v1 : IVec S23x8192 32) (main_v4 : IVec S23x8192 32) (main_v10 : IVec S23x8192 32) (main_v17 : IVec S23x8192 32) (main_c_4 : IVec S_ 32) : IVec S4096x4096 1 × IVec S23x8192 1 × IVec S23x8192 1 × IVec S23x8192 1 :=
  let main_v18 : IVec S23x8192 32 := broadcastInDim S23x8192 ![] bcast_S_S23x8192 main_c_4
  let main_v19 : IVec S23x8192 32 := Host.shli main_v18 main_v4
  let main_c_5 : IVec S_ 32 := constantI S_ 32 1#32
  let main_v20 : IVec S23x8192 32 := broadcastInDim S23x8192 ![] bcast_S_S23x8192 main_c_5
  let main_v21 : IVec S23x8192 32 := subi main_v19 main_v20
  let main_v22 : IVec S23x8192 32 := andi main_v1 main_v21
  let main_v23 : IVec S23x8192 32 := addi main_v17 main_v22
  let main_c_6 : IVec S_ 32 := constantI S_ 32 1#32
  let main_v24 : IVec S23x8192 32 := broadcastInDim S23x8192 ![] bcast_S_S23x8192 main_c_6
  let main_c_7 : IVec S_ 32 := constantI S_ 32 1#32
  let main_v25 : IVec S23x8192 32 := broadcastInDim S23x8192 ![] bcast_S_S23x8192 main_c_7
  let main_v26 : IVec S23x8192 32 := addi main_v4 main_v25
  let main_v27 : IVec S23x8192 32 := Host.shli main_v24 main_v26
  let main_c_8 : IVec S_ 32 := constantI S_ 32 1#32
  let main_v28 : IVec S23x8192 32 := broadcastInDim S23x8192 ![] bcast_S_S23x8192 main_c_8
  let main_v29 : IVec S23x8192 32 := subi main_v27 main_v28
  let main_v30 : IVec S23x8192 32 := andi main_v1 main_v29
  let main_v31 : IVec S23x8192 32 := addi main_v10 main_v30
  let main_v32 : FVec F S4096x4096 .f32 := Host.absf main_arg0
  let main_cst : FVec F S_ .f32 := constant S_ .f32 0x7F800000#32
  let main_v33 : FVec F S4096x4096 .f32 := broadcastInDim S4096x4096 ![] bcast_S_S4096x4096 main_cst
  let main_v34 : IVec S4096x4096 1 := cmpf .olt main_v32 main_v33
  let main_v35 : FVec F S23x8192 .f32 := Host.absf main_arg1
  let main_cst_9 : FVec F S_ .f32 := constant S_ .f32 0x7F800000#32
  fn_part2 (F := F) main_arg2 main_arg3 main_v23 main_v31 main_v34 main_v35 main_cst_9

def fn {F : FTy → Type} [FloatOps F] (main_arg0 : FVec F S4096x4096 .f32) (main_arg1 : FVec F S23x8192 .f32) (main_arg2 : IVec S23x8192 32) (main_arg3 : IVec S23x8192 32) : IVec S4096x4096 1 × IVec S23x8192 1 × IVec S23x8192 1 × IVec S23x8192 1 :=
  let main_v0 : IVec S23x8192 32 := iotaInDim S23x8192 32 0
  let main_v1 : IVec S23x8192 32 := iotaInDim S23x8192 32 1
  let main_c : IVec S_ 32 := constantI S_ 32 11#32
  let main_v2 : IVec S23x8192 32 := broadcastInDim S23x8192 ![] bcast_S_S23x8192 main_c
  let main_v3 : IVec S23x8192 32 := subi main_v0 main_v2
  let main_v4 : IVec S23x8192 32 := absi main_v3
  let main_c_0 : IVec S_ 32 := constantI S_ 32 2#32
  let main_v5 : IVec S23x8192 32 := broadcastInDim S23x8192 ![] bcast_S_S23x8192 main_c_0
  let main_v6 : IVec S23x8192 32 := addi main_v4 main_v5
  let main_v7 : IVec S23x8192 32 := Host.shrui main_v1 main_v6
  let main_c_1 : IVec S_ 32 := constantI S_ 32 1#32
  let main_v8 : IVec S23x8192 32 := broadcastInDim S23x8192 ![] bcast_S_S23x8192 main_c_1
  let main_v9 : IVec S23x8192 32 := addi main_v4 main_v8
  let main_v10 : IVec S23x8192 32 := Host.shli main_v7 main_v9
  let main_c_2 : IVec S_ 32 := constantI S_ 32 1#32
  let main_v11 : IVec S23x8192 32 := broadcastInDim S23x8192 ![] bcast_S_S23x8192 main_c_2
  let main_v12 : IVec S23x8192 32 := addi main_v4 main_v11
  let main_v13 : IVec S23x8192 32 := Host.shrui main_v1 main_v12
  let main_c_3 : IVec S_ 32 := constantI S_ 32 1#32
  let main_v14 : IVec S23x8192 32 := broadcastInDim S23x8192 ![] bcast_S_S23x8192 main_c_3
  let main_v15 : IVec S23x8192 32 := andi main_v13 main_v14
  let main_v16 : IVec S23x8192 32 := Host.shli main_v15 main_v4
  let main_v17 : IVec S23x8192 32 := addi main_v10 main_v16
  let main_c_4 : IVec S_ 32 := constantI S_ 32 1#32
  fn_part1 (F := F) main_arg0 main_arg1 main_arg2 main_arg3 main_v1 main_v4 main_v10 main_v17 main_c_4
-- ==== Kernel.lean ====
abbrev S4096x4096 : Shape := ⟨2, ![4096, 4096]⟩
abbrev S23x8192 : Shape := ⟨2, ![23, 8192]⟩
abbrev S13x1x128 : Shape := ⟨3, ![13, 1, 128]⟩
abbrev S10x32x1 : Shape := ⟨3, ![10, 32, 1]⟩
abbrev S13x8192 : Shape := ⟨2, ![13, 8192]⟩
abbrev S13x32x256 : Shape := ⟨3, ![13, 32, 256]⟩
abbrev S_ : Shape := ⟨0, ![]⟩
abbrev S13x128x1 : Shape := ⟨3, ![13, 128, 1]⟩
abbrev S13x32x128 : Shape := ⟨3, ![13, 32, 128]⟩
abbrev S5x8192 : Shape := ⟨2, ![5, 8192]⟩
abbrev S10x8192 : Shape := ⟨2, ![10, 8192]⟩
abbrev S10x64x128 : Shape := ⟨3, ![10, 64, 128]⟩
abbrev S10x32x128 : Shape := ⟨3, ![10, 32, 128]⟩
abbrev S13x4096 : Shape := ⟨2, ![13, 4096]⟩
abbrev S10x4096 : Shape := ⟨2, ![10, 4096]⟩
abbrev S4096x13 : Shape := ⟨2, ![4096, 13]⟩
abbrev S1x4096 : Shape := ⟨2, ![1, 4096]⟩
abbrev S4096 : Shape := ⟨1, ![4096]⟩
abbrev S2x4096 : Shape := ⟨2, ![2, 4096]⟩
abbrev S4096x1 : Shape := ⟨2, ![4096, 1]⟩
abbrev S4096x2 : Shape := ⟨2, ![4096, 2]⟩
abbrev S4x4096 : Shape := ⟨2, ![4, 4096]⟩
abbrev S4096x128 : Shape := ⟨2, ![4096, 128]⟩
abbrev S4032x128 : Shape := ⟨2, ![4032, 128]⟩
abbrev S64x128 : Shape := ⟨2, ![64, 128]⟩
abbrev S4064x128 : Shape := ⟨2, ![4064, 128]⟩
abbrev S32x128 : Shape := ⟨2, ![32, 128]⟩
abbrev S4080x128 : Shape := ⟨2, ![4080, 128]⟩
abbrev S16x128 : Shape := ⟨2, ![16, 128]⟩
abbrev S4088x128 : Shape := ⟨2, ![4088, 128]⟩
abbrev S8x128 : Shape := ⟨2, ![8, 128]⟩
abbrev S4092x128 : Shape := ⟨2, ![4092, 128]⟩
abbrev S4x128 : Shape := ⟨2, ![4, 128]⟩
abbrev S4094x128 : Shape := ⟨2, ![4094, 128]⟩
abbrev S2x128 : Shape := ⟨2, ![2, 128]⟩
abbrev S4095x128 : Shape := ⟨2, ![4095, 128]⟩
abbrev S1x128 : Shape := ⟨2, ![1, 128]⟩
abbrev S128x128 : Shape := ⟨2, ![128, 128]⟩
abbrev S128 : Shape := ⟨1, ![128]⟩
abbrev S3968x128 : Shape := ⟨2, ![3968, 128]⟩
abbrev S256x4096 : Shape := ⟨2, ![256, 4096]⟩
abbrev S256x2048 : Shape := ⟨2, ![256, 2048]⟩
abbrev S2048 : Shape := ⟨1, ![2048]⟩
abbrev S1x2048 : Shape := ⟨2, ![1, 2048]⟩
abbrev S256x1024 : Shape := ⟨2, ![256, 1024]⟩
abbrev S1024 : Shape := ⟨1, ![1024]⟩
abbrev S1x1024 : Shape := ⟨2, ![1, 1024]⟩
abbrev S256x512 : Shape := ⟨2, ![256, 512]⟩
abbrev S512 : Shape := ⟨1, ![512]⟩
abbrev S1x512 : Shape := ⟨2, ![1, 512]⟩
abbrev S256x256 : Shape := ⟨2, ![256, 256]⟩
abbrev S256 : Shape := ⟨1, ![256]⟩
abbrev S1x256 : Shape := ⟨2, ![1, 256]⟩
abbrev S256x128 : Shape := ⟨2, ![256, 128]⟩

abbrev nBuf : Space → Nat
  | .hbm => 76
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S23x8192, .f32⟩
  | .hbm, ⟨2, _⟩ => ⟨S23x8192, .i32⟩
  | .hbm, ⟨3, _⟩ => ⟨S23x8192, .i32⟩
  | .hbm, ⟨4, _⟩ => ⟨S13x1x128, .i32⟩
  | .hbm, ⟨5, _⟩ => ⟨S13x1x128, .i32⟩
  | .hbm, ⟨6, _⟩ => ⟨S10x32x1, .i32⟩
  | .hbm, ⟨7, _⟩ => ⟨S10x32x1, .i32⟩
  | .hbm, ⟨8, _⟩ => ⟨S13x8192, .f32⟩
  | .hbm, ⟨9, _⟩ => ⟨S13x32x256, .f32⟩
  | .hbm, ⟨10, _⟩ => ⟨S_, .i32⟩
  | .hbm, ⟨11, _⟩ => ⟨S13x1x128, .i32⟩
  | .hbm, ⟨12, _⟩ => ⟨S13x1x128, .i1⟩
  | .hbm, ⟨13, _⟩ => ⟨S_, .i32⟩
  | .hbm, ⟨14, _⟩ => ⟨S13x1x128, .i32⟩
  | .hbm, ⟨15, _⟩ => ⟨S13x1x128, .i32⟩
  | .hbm, ⟨16, _⟩ => ⟨S13x1x128, .i32⟩
  | .hbm, ⟨17, _⟩ => ⟨S13x128x1, .i32⟩
  | .hbm, ⟨18, _⟩ => ⟨S13x32x128, .f32⟩
  | .hbm, ⟨19, _⟩ => ⟨S_, .i32⟩
  | .hbm, ⟨20, _⟩ => ⟨S13x1x128, .i32⟩
  | .hbm, ⟨21, _⟩ => ⟨S13x1x128, .i1⟩
  | .hbm, ⟨22, _⟩ => ⟨S_, .i32⟩
  | .hbm, ⟨23, _⟩ => ⟨S13x1x128, .i32⟩
  | .hbm, ⟨24, _⟩ => ⟨S13x1x128, .i32⟩
  | .hbm, ⟨25, _⟩ => ⟨S13x1x128, .i32⟩
  | .hbm, ⟨26, _⟩ => ⟨S13x128x1, .i32⟩
  | .hbm, ⟨27, _⟩ => ⟨S13x32x128, .f32⟩
  | .hbm, ⟨28, _⟩ => ⟨S5x8192, .f32⟩
  | .hbm, ⟨29, _⟩ => ⟨S5x8192, .f32⟩
  | .hbm, ⟨30, _⟩ => ⟨S10x8192, .f32⟩
  | .hbm, ⟨31, _⟩ => ⟨S10x64x128, .f32⟩
  | .hbm, ⟨32, _⟩ => ⟨S_, .i32⟩
  | .hbm, ⟨33, _⟩ => ⟨S10x32x1, .i32⟩
  | .hbm, ⟨34, _⟩ => ⟨S10x32x1, .i1⟩
  | .hbm, ⟨35, _⟩ => ⟨S_, .i32⟩
  | .hbm, ⟨36, _⟩ => ⟨S10x32x1, .i32⟩
  | .hbm, ⟨37, _⟩ => ⟨S10x32x1, .i32⟩
  | .hbm, ⟨38, _⟩ => ⟨S10x32x1, .i32⟩
  | .hbm, ⟨39, _⟩ => ⟨S10x32x128, .f32⟩
  | .hbm, ⟨40, _⟩ => ⟨S_, .i32⟩
  | .hbm, ⟨41, _⟩ => ⟨S10x32x1, .i32⟩
  | .hbm, ⟨42, _⟩ => ⟨S10x32x1, .i1⟩
  | .hbm, ⟨43, _⟩ => ⟨S_, .i32⟩
  | .hbm, ⟨44, _⟩ => ⟨S10x32x1, .i32⟩
  | .hbm, ⟨45, _⟩ => ⟨S10x32x1, .i32⟩
  | .hbm, ⟨46, _⟩ => ⟨S10x32x1, .i32⟩
  | .hbm, ⟨47, _⟩ => ⟨S10x32x128, .f32⟩
  | .hbm, ⟨48, _⟩ => ⟨S13x4096, .f32⟩
  | .hbm, ⟨49, _⟩ => ⟨S13x4096, .f32⟩
  | .hbm, ⟨50, _⟩ => ⟨S10x4096, .f32⟩
  | .hbm, ⟨51, _⟩ => ⟨S10x4096, .f32⟩
  | .hbm, ⟨52, _⟩ => ⟨S4096x13, .f32⟩
  | .hbm, ⟨53, _⟩ => ⟨S4096x13, .f32⟩
  | .hbm, ⟨54, _⟩ => ⟨S1x4096, .f32⟩
  | .hbm, ⟨55, _⟩ => ⟨S4096, .f32⟩
  | .hbm, ⟨56, _⟩ => ⟨S1x4096, .f32⟩
  | .hbm, ⟨57, _⟩ => ⟨S4096, .f32⟩
  | .hbm, ⟨58, _⟩ => ⟨S1x4096, .f32⟩
  | .hbm, ⟨59, _⟩ => ⟨S1x4096, .f32⟩
  | .hbm, ⟨60, _⟩ => ⟨S2x4096, .f32⟩
  | .hbm, ⟨61, _⟩ => ⟨S1x4096, .f32⟩
  | .hbm, ⟨62, _⟩ => ⟨S4096, .f32⟩
  | .hbm, ⟨63, _⟩ => ⟨S1x4096, .f32⟩
  | .hbm, ⟨64, _⟩ => ⟨S4096, .f32⟩
  | .hbm, ⟨65, _⟩ => ⟨S4096x1, .f32⟩
  | .hbm, ⟨66, _⟩ => ⟨S4096x1, .f32⟩
  | .hbm, ⟨67, _⟩ => ⟨S4096x2, .f32⟩
  | .hbm, ⟨68, _⟩ => ⟨S4x4096, .f32⟩
  | .hbm, ⟨69, _⟩ => ⟨S4x4096, .f32⟩
  | .hbm, ⟨70, _⟩ => ⟨S4x4096, .f32⟩
  | .hbm, ⟨71, _⟩ => ⟨S4x4096, .f32⟩
  | .hbm, ⟨72, _⟩ => ⟨S4096x128, .f32⟩
  | .hbm, ⟨73, _⟩ => ⟨S4096x128, .f32⟩
  | .hbm, ⟨74, _⟩ => ⟨S4096x128, .f32⟩
  | .hbm, ⟨75, _⟩ => ⟨S4096x4096, .f32⟩
  | .local _ .vmem, ⟨0, _⟩ => ⟨S4096x13, .f32⟩
  | .local _ .vmem, ⟨1, _⟩ => ⟨S4096x13, .f32⟩
  | .local _ .vmem, ⟨2, _⟩ => ⟨S4096x128, .f32⟩
  | .local _ .vmem, ⟨3, _⟩ => ⟨S4096x128, .f32⟩
  | .local _ .vmem, ⟨4, _⟩ => ⟨S2x4096, .f32⟩
  | .local _ .vmem, ⟨5, _⟩ => ⟨S4096x2, .f32⟩
  | .local _ .vmem, ⟨6, _⟩ => ⟨S4096x128, .f32⟩
  | .local _ .vmem, ⟨7, _⟩ => ⟨S4096x128, .f32⟩
  | .local _ .vmem, ⟨8, _⟩ => ⟨S256x4096, .f32⟩
  | .local _ .vmem, ⟨9, _⟩ => ⟨S256x4096, .f32⟩
  | .local _ .vmem, ⟨10, _⟩ => ⟨S4x4096, .f32⟩
  | .local _ .vmem, ⟨11, _⟩ => ⟨S4x4096, .f32⟩
  | .local _ .vmem, ⟨12, _⟩ => ⟨S4x4096, .f32⟩
  | .local _ .vmem, ⟨13, _⟩ => ⟨S4x4096, .f32⟩
  | .local _ .vmem, ⟨14, _⟩ => ⟨S4096x128, .f32⟩
  | .local _ .vmem, ⟨15, _⟩ => ⟨S4096x128, .f32⟩
  | .local _ .vmem, ⟨16, _⟩ => ⟨S256x4096, .f32⟩
  | .local _ .vmem, ⟨17, _⟩ => ⟨S256x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v0 : Ref sig .tc := ⟨.hbm, 8, rfl⟩
abbrev main_v1 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v8 : Ref sig .tc := ⟨.hbm, 39, rfl⟩
abbrev main_call3_c : Ref sig .tc := ⟨.hbm, 40, rfl⟩
abbrev main_call3_v0 : Ref sig .tc := ⟨.hbm, 41, rfl⟩
abbrev main_call3_v1 : Ref sig .tc := ⟨.hbm, 42, rfl⟩
abbrev main_call3_c_0 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35_0 : Ref sig .tc := ⟨.hbm, 73, rfl⟩
abbrev main_v35_1 : Ref sig .tc := ⟨.hbm, 74, rfl⟩
abbrev main_v36 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg6_0 : Ref sig .tc := ⟨.vmem, 15, rfl⟩
abbrev cc2_stg7_0 : Ref sig .tc := ⟨.vmem, 16, rfl⟩
abbrev cc2_stg7_1 : Ref sig .tc := ⟨.vmem, 17, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem4_0 : DmaSem sig := 13
abbrev cc2_sem5_0 : DmaSem sig := 14
abbrev cc2_sem6_0 : DmaSem sig := 15
abbrev cc2_sem7_0 : DmaSem sig := 16
abbrev cc2_sem7_1 : DmaSem sig := 17

abbrev nD : Nat := 1
abbrev τ : Topo := Topo.v7x

variable {F : FTy → Type} [FloatOps F]

abbrev grid0 : Pipeline.Grid := .none

abbrev stage0_0 : Fin 1 → Memref sig .tc .vmem S4096x13 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x13 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

abbrev stage1_0 : Fin 1 → Memref sig .tc .vmem S4096x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4096x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S4096x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S4096x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4x4096 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S4096x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S4096x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S256x4096 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== ReferenceIdeal.lean ====
abbrev S4096x4096 : Shape := ⟨2, ![4096, 4096]⟩
abbrev S23x8192 : Shape := ⟨2, ![23, 8192]⟩
abbrev S_ : Shape := ⟨0, ![]⟩
abbrev S1x8192 : Shape := ⟨2, ![1, 8192]⟩
abbrev S8192 : Shape := ⟨1, ![8192]⟩
abbrev S8192x1 : Shape := ⟨2, ![8192, 1]⟩
abbrev S4096x8192 : Shape := ⟨2, ![4096, 8192]⟩
abbrev S8192x4096 : Shape := ⟨2, ![8192, 4096]⟩

abbrev nBuf : Space → Nat
  | .hbm => 84
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S23x8192, .f32⟩
  | .hbm, ⟨2, _⟩ => ⟨S23x8192, .i32⟩
  | .hbm, ⟨3, _⟩ => ⟨S23x8192, .i32⟩
  | .hbm, ⟨4, _⟩ => ⟨S_, .i32⟩
  | .hbm, ⟨5, _⟩ => ⟨S_, .i32⟩
  | .hbm, ⟨6, _⟩ => ⟨S23x8192, .i32⟩
  | .hbm, ⟨7, _⟩ => ⟨S23x8192, .f32⟩
  | .hbm, ⟨8, _⟩ => ⟨S23x8192, .i32⟩
  | .hbm, ⟨9, _⟩ => ⟨S_, .i32⟩
  | .hbm, ⟨10, _⟩ => ⟨S_, .i32⟩
  | .hbm, ⟨11, _⟩ => ⟨S4096x4096, .f32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1x8192, .i32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i1⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S8192, .i32⟩
  | .hbm, ⟨39, _⟩ => ⟨S8192x1, .i32⟩
  | .hbm, ⟨40, _⟩ => ⟨S4096x8192, .f32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x8192, .f32⟩
  | .hbm, ⟨56, _⟩ => ⟨S8192, .f32⟩
  | .hbm, ⟨57, _⟩ => ⟨S1x8192, .f32⟩
  | .hbm, ⟨58, _⟩ => ⟨S4096x8192, .f32⟩
  | .hbm, ⟨59, _⟩ => ⟨S4096x8192, .f32⟩
  | .hbm, ⟨60, _⟩ => ⟨S8192x4096, .f32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S1x8192, .i32⟩
  | .hbm, ⟨76, _⟩ => ⟨S8192, .i32⟩
  | .hbm, ⟨77, _⟩ => ⟨S_, .f32⟩
  | .hbm, ⟨78, _⟩ => ⟨S4096x4096, .f32⟩
  | .hbm, ⟨79, _⟩ => ⟨S8192x1, .i32⟩
  | .hbm, ⟨80, _⟩ => ⟨S4096x4096, .f32⟩
  | .hbm, ⟨81, _⟩ => ⟨S4096x4096, .f32⟩
  | .hbm, ⟨82, _⟩ => ⟨S_, .i32⟩
  | .hbm, ⟨83, _⟩ => ⟨S_, .i32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_while0c_c_6 : Ref sig .tc := ⟨.hbm, 12, rfl⟩
abbrev main_while0c_v1 : Ref sig .tc := ⟨.hbm, 13, rfl⟩
abbrev main_while0b_c_6 : Ref sig .tc := ⟨.hbm, 14, rfl⟩
abbrev main_while0b_v1 : Ref sig .tc := ⟨.hbm, 15, rfl⟩
abbrev main_while0b_v2 : Ref sig .tc := ⟨.hbm, 16, rfl⟩
abbrev main_while0b_c_7 : Ref sig .tc := ⟨.hbm, 17, rfl⟩
abbrev main_while0b_v3 : Ref sig .tc := ⟨.hbm, 18, rfl⟩
abbrev main_while0b_c_8 : Ref sig .tc := ⟨.hbm, 19, rfl⟩
abbrev main_while0b_v4 : Ref sig .tc := ⟨.hbm, 20, rfl⟩
abbrev main_while0b_v5 : Ref sig .tc := ⟨.hbm, 21, rfl⟩
abbrev main_while0b_c_9 : Ref sig .tc := ⟨.hbm, 22, rfl⟩
abbrev main_while0b_c_10 : Ref sig .tc := ⟨.hbm, 23, rfl⟩
abbrev main_while0b_v6 : Ref sig .tc := ⟨.hbm, 24, rfl⟩
abbrev main_while0b_c_11 : Ref sig .tc := ⟨.hbm, 25, rfl⟩
abbrev main_while0b_c_12 : Ref sig .tc := ⟨.hbm, 26, rfl⟩
abbrev main_while0b_v7 : Ref sig .tc := ⟨.hbm, 27, rfl⟩
abbrev main_while0b_c_13 : Ref sig .tc := ⟨.hbm, 28, rfl⟩
abbrev main_while0b_v8 : Ref sig .tc := ⟨.hbm, 29, rfl⟩
abbrev main_while0b_v9 : Ref sig .tc := ⟨.hbm, 30, rfl⟩
abbrev main_while0b_v10 : Ref sig .tc := ⟨.hbm, 31, rfl⟩
abbrev main_while0b_c_14 : Ref sig .tc := ⟨.hbm, 32, rfl⟩
abbrev main_while0b_v11 : Ref sig .tc := ⟨.hbm, 33, rfl⟩
abbrev main_while0b_v12 : Ref sig .tc := ⟨.hbm, 34, rfl⟩
abbrev main_while0b_c_15 : Ref sig .tc := ⟨.hbm, 35, rfl⟩
abbrev main_while0b_v13 : Ref sig .tc := ⟨.hbm, 36, rfl⟩
abbrev main_while0b_v14 : Ref sig .tc := ⟨.hbm, 37, rfl⟩
abbrev main_while0b_v15 : Ref sig .tc := ⟨.hbm, 38, rfl⟩
abbrev main_while0b_v16 : Ref sig .tc := ⟨.hbm, 39, rfl⟩
abbrev main_while0b_v17 : Ref sig .tc := ⟨.hbm, 40, rfl⟩
abbrev main_while0b_v18 : Ref sig .tc := ⟨.hbm, 41, rfl⟩
abbrev main_while0b_c_16 : Ref sig .tc := ⟨.hbm, 42, rfl⟩
abbrev main_while0b_v19 : Ref sig .tc := ⟨.hbm, 43, rfl⟩
abbrev main_while0b_c_17 : Ref sig .tc := ⟨.hbm, 44, rfl⟩
abbrev main_while0b_v20 : Ref sig .tc := ⟨.hbm, 45, rfl⟩
abbrev main_while0b_v21 : Ref sig .tc := ⟨.hbm, 46, rfl⟩
abbrev main_while0b_c_18 : Ref sig .tc := ⟨.hbm, 47, rfl⟩
abbrev main_while0b_c_19 : Ref sig .tc := ⟨.hbm, 48, rfl⟩
abbrev main_while0b_v22 : Ref sig .tc := ⟨.hbm, 49, rfl⟩
abbrev main_while0b_c_20 : Ref sig .tc := ⟨.hbm, 50, rfl⟩
abbrev main_while0b_c_21 : Ref sig .tc := ⟨.hbm, 51, rfl⟩
abbrev main_while0b_v23 : Ref sig .tc := ⟨.hbm, 52, rfl⟩
abbrev main_while0b_c_22 : Ref sig .tc := ⟨.hbm, 53, rfl⟩
abbrev main_while0b_v24 : Ref sig .tc := ⟨.hbm, 54, rfl⟩
abbrev main_while0b_v25 : Ref sig .tc := ⟨.hbm, 55, rfl⟩
abbrev main_while0b_v26 : Ref sig .tc := ⟨.hbm, 56, rfl⟩
abbrev main_while0b_v27 : Ref sig .tc := ⟨.hbm, 57, rfl⟩
abbrev main_while0b_v28 : Ref sig .tc := ⟨.hbm, 58, rfl⟩
abbrev main_while0b_v29 : Ref sig .tc := ⟨.hbm, 59, rfl⟩
abbrev main_while0b_v30 : Ref sig .tc := ⟨.hbm, 60, rfl⟩
abbrev main_while0b_v31 : Ref sig .tc := ⟨.hbm, 61, rfl⟩
abbrev main_while0b_c_23 : Ref sig .tc := ⟨.hbm, 62, rfl⟩
abbrev main_while0b_v32 : Ref sig .tc := ⟨.hbm, 63, rfl⟩
abbrev main_while0b_c_24 : Ref sig .tc := ⟨.hbm, 64, rfl⟩
abbrev main_while0b_v33 : Ref sig .tc := ⟨.hbm, 65, rfl⟩
abbrev main_while0b_v34 : Ref sig .tc := ⟨.hbm, 66, rfl⟩
abbrev main_while0b_c_25 : Ref sig .tc := ⟨.hbm, 67, rfl⟩
abbrev main_while0b_c_26 : Ref sig .tc := ⟨.hbm, 68, rfl⟩
abbrev main_while0b_v35 : Ref sig .tc := ⟨.hbm, 69, rfl⟩
abbrev main_while0b_c_27 : Ref sig .tc := ⟨.hbm, 70, rfl⟩
abbrev main_while0b_c_28 : Ref sig .tc := ⟨.hbm, 71, rfl⟩
abbrev main_while0b_v36 : Ref sig .tc := ⟨.hbm, 72, rfl⟩
abbrev main_while0b_c_29 : Ref sig .tc := ⟨.hbm, 73, rfl⟩
abbrev main_while0b_v37 : Ref sig .tc := ⟨.hbm, 74, rfl⟩
abbrev main_while0b_v38 : Ref sig .tc := ⟨.hbm, 75, rfl⟩
abbrev main_while0b_v39 : Ref sig .tc := ⟨.hbm, 76, rfl⟩
abbrev main_while0b_cst : Ref sig .tc := ⟨.hbm, 77, rfl⟩
abbrev main_while0b_v40 : Ref sig .tc := ⟨.hbm, 78, rfl⟩
abbrev main_while0b_v41 : Ref sig .tc := ⟨.hbm, 79, rfl⟩
abbrev main_while0b_v42 : Ref sig .tc := ⟨.hbm, 80, rfl⟩
abbrev main_while0b_v43 : Ref sig .tc := ⟨.hbm, 81, rfl⟩
abbrev main_while0b_c_30 : Ref sig .tc := ⟨.hbm, 82, rfl⟩
abbrev main_while0b_v44 : Ref sig .tc := ⟨.hbm, 83, rfl⟩

abbrev nD : Nat := 1
abbrev τ : Topo := Topo.v7x

variable {F : FTy → Type} [FloatOps F]

abbrev main_while0_count : Scf.Loop 32 := ⟨0#32, 23#32, 1#32⟩
-- ==== Proof.Pieces.lean ====
/- Blocks of a matrix, a row or a column spread over a matrix, and matrices put together from blocks of one size,
   each read at an entry. The three kernels are built from these. -/
module

public import Idealize.ShloMosaic.Lib.Pipeline.Value
public import Idealize.ShloMosaic.Lib.Pipeline.ValueKit.Tiles
public import Idealize.ShloMosaic.Lib.ValueIdxCore
public import Idealize.ShloMosaic.Lib.MatmulPlain
public import Mathlib.Tactic.FinCases
@[expose] public section

noncomputable section

namespace Cert.Net

open Idealize.ShloMosaic Idealize.ShloMosaic.ValueIdx

/-- The shape of a matrix. -/
abbrev Mat (m n : ℕ) : Shape := ⟨2, ![m, n]⟩

variable {α : Type} {m n : ℕ}

/-- A block inside a matrix. -/
theorem slices_mat {a b k l : ℕ} (h0 : a + k ≤ m) (h1 : b + l ≤ n) : (Mat m n).Slices ![a, b] (Mat k l) :=
  ⟨rfl, fun i => by
    match i with
    | ⟨0, _⟩ => exact h0
    | ⟨1, _⟩ => exact h1⟩

/-- The k by l block of a matrix whose first entry is at (a, b). -/
def cut (x : (Mat m n).Idx → α) (a b k l : ℕ) (h0 : a + k ≤ m) (h1 : b + l ≤ n) : (Mat k l).Idx → α :=
  extractStridedSlice (Mat k l) ![a, b] x (slices_mat h0 h1)

/-- A block's entry is the matrix's entry, its two coordinates moved. -/
theorem cut_apply (x : (Mat m n).Idx → α) (a b k l : ℕ) (h0 : a + k ≤ m) (h1 : b + l ≤ n) (i : Fin k) (j : Fin l) :
    cut x a b k l h0 h1 (ix2 i j) = x (ix2 ⟨a + i, by omega⟩ ⟨b + j, by omega⟩) := by
  refine extractStridedSlice_apply _ _ _ _ _ fun c => ?_
  match c with
  | ⟨0, _⟩ => rfl
  | ⟨1, _⟩ => rfl

/-- A block inside a matrix, as the rectangle of a load. -/
theorem inb_mat {a b k l : ℕ} (h0 : a + k ≤ m) (h1 : b + l ≤ n) :
    ∀ i : Fin 2, (![a, b] : Fin 2 → ℕ) i + (Mat k l).size i ≤ (Mat m n).size i := fun i => by
  match i with
  | ⟨0, _⟩ => exact h0
  | ⟨1, _⟩ => exact h1

variable {Val : EltTy → Type} {e : EltTy}

/-- The k by l block loaded from a matrix at (a, b). -/
def load (x : (Mat m n).Idx → Val e) (a b k l : ℕ) (h0 : a + k ≤ m) (h1 : b + l ≤ n) : (Mat k l).Idx → Val e :=
  View.ld x (Rect.unit (s := Mat m n) ![a, b] (Mat k l).size (inb_mat h0 h1))

/-- A loaded block's entry is the matrix's entry, its two coordinates moved. -/
theorem load_apply (x : (Mat m n).Idx → Val e) (a b k l : ℕ) (h0 : a + k ≤ m) (h1 : b + l ≤ n) (i : Fin k) (j : Fin l) :
    load x a b k l h0 h1 (ix2 i j) = x (ix2 ⟨a + i, by omega⟩ ⟨b + j, by omega⟩) := by
  refine View.ld_unit_apply_of (S := Mat m n) x ![a, b] (Mat k l).size (inb_mat h0 h1) (ix2 i j) _ fun c => ?_
  match c with
  | ⟨0, _⟩ => rfl
  | ⟨1, _⟩ => rfl

/-- A matrix of one row recast as a vector. -/
theorem casts_row (n : ℕ) : (Mat 1 n).ShapeCasts ⟨1, ![n]⟩ := by
  simp [Shape.ShapeCasts, Shape.numel]

/-- A vector recast as a matrix of one row. -/
theorem casts_row' (n : ℕ) : (⟨1, ![n]⟩ : Shape).ShapeCasts (Mat 1 n) := by
  simp [Shape.ShapeCasts, Shape.numel]

/-- A piece of a vector that ends inside it. -/
theorem slices_vec {o w : ℕ} (h : o + w ≤ n) : (⟨1, ![n]⟩ : Shape).Slices ![o] ⟨1, ![w]⟩ :=
  ⟨rfl, fun i => by
    match i with
    | ⟨0, _⟩ => exact h⟩

/-- One row spread over many. -/
theorem spreads_row (r w : ℕ) : (Mat 1 w).Broadcasts (Mat r w) :=
  ⟨le_rfl, fun i => by
    match i with
    | ⟨0, _⟩ => exact Or.inl rfl
    | ⟨1, _⟩ => exact Or.inr fun _ => rfl⟩

/-- One column spread over many. -/
theorem spreads_col (r w : ℕ) : (Mat r 1).Broadcasts (Mat r w) :=
  ⟨le_rfl, fun i => by
    match i with
    | ⟨0, _⟩ => exact Or.inr fun _ => rfl
    | ⟨1, _⟩ => exact Or.inl rfl⟩

/-- The entries o, …, o + w - 1 of a row, as each of the r rows of a matrix. -/
def rowPart (v : (Mat 1 n).Idx → α) (o w r : ℕ) (h : o + w ≤ n) : (Mat r w).Idx → α :=
  broadcastTo (Mat r w) (shapeCast (Mat 1 w)
    (extractStridedSlice ⟨1, ![w]⟩ ![o] (shapeCast ⟨1, ![n]⟩ v (casts_row n)) (slices_vec h)) (casts_row' w)) (spreads_row r w)

/-- A one-row matrix spread over r rows has the row's entry in each. -/
theorem spreadRow_apply (v : (Mat 1 n).Idx → α) (r : ℕ) (i : Fin r) (j : Fin n) (h : (Mat 1 n).Broadcasts (Mat r n)) :
    broadcastTo (Mat r n) v h (ix2 i j) = v (ix2 0 j) := by
  refine broadcastTo_apply _ _ _ _ fun c => ?_
  match c with
  | ⟨0, _⟩ => rfl
  | ⟨1, _⟩ =>
    show j.val = if n = 1 then 0 else j.val
    split <;> omega

/-- A one-column matrix spread over n columns has the column's entry in each. -/
theorem spreadCol_apply (v : (Mat m 1).Idx → α) (i : Fin m) (j : Fin n) (h : (Mat m 1).Broadcasts (Mat m n)) :
    broadcastTo (Mat m n) v h (ix2 i j) = v (ix2 i 0) := by
  refine broadcastTo_apply _ _ _ _ fun c => ?_
  match c with
  | ⟨0, _⟩ =>
    show i.val = if m = 1 then 0 else i.val
    split <;> omega
  | ⟨1, _⟩ => rfl

/-- The spread part of a row at an entry. -/
theorem rowPart_apply (v : (Mat 1 n).Idx → α) (o w r : ℕ) (h : o + w ≤ n) (i : Fin r) (j : Fin w) :
    rowPart v o w r h (ix2 i j) = v (ix2 0 ⟨o + j, by omega⟩) := by
  refine (spreadRow_apply _ r i j _).trans ?_
  refine (shapeCast_apply _ _ _ (ix1 j) ?_).trans ?_
  · rw [Shape.rowMajor_val_one, Shape.rowMajor_val_two]
    show j.val = 0 * w + j.val
    omega
  refine (extractStridedSlice_apply _ _ _ _ (ix1 (⟨o + j, by omega⟩ : Fin n)) fun c => ?_).trans ?_
  · match c with
    | ⟨0, _⟩ => rfl
  refine shapeCast_apply _ _ _ (ix2 0 ⟨o + j, by omega⟩) ?_
  rw [Shape.rowMajor_val_one, Shape.rowMajor_val_two]
  show 0 * n + (o + j.val) = o + j.val
  omega

/-- N blocks side by side. -/
theorem concatenates_cols {N w r : ℕ} (f : Fin N → ((Mat r w).Idx → α)) (hw : N * w = n) (h2 : 2 ≤ N) :
    Shape.Concatenates ((List.ofFn fun c : Fin N => (⟨Mat r w, f c⟩ : (s : Shape) × (s.Idx → α))).map (·.1)) (Mat r n) 1 := by
  refine ⟨by simpa using h2, fun s hs => ?_, ?_⟩
  · obtain ⟨c, rfl⟩ : ∃ c : Fin N, Mat r w = s := by simpa using hs
    refine ⟨rfl, fun b hb => ?_⟩
    match b with
    | ⟨0, _⟩ => rfl
    | ⟨1, _⟩ => exact absurd rfl hb
  · simp [← hw, List.map_ofFn, Function.comp_def, List.ofFn_const]

/-- N blocks one below another. -/
theorem concatenates_rows {N w r : ℕ} (f : Fin N → ((Mat w r).Idx → α)) (hw : N * w = m) (h2 : 2 ≤ N) :
    Shape.Concatenates ((List.ofFn fun c : Fin N => (⟨Mat w r, f c⟩ : (s : Shape) × (s.Idx → α))).map (·.1)) (Mat m r) 0 := by
  refine ⟨by simpa using h2, fun s hs => ?_, ?_⟩
  · obtain ⟨c, rfl⟩ : ∃ c : Fin N, Mat w r = s := by simpa using hs
    refine ⟨rfl, fun b hb => ?_⟩
    match b with
    | ⟨0, _⟩ => exact absurd rfl hb
    | ⟨1, _⟩ => rfl
  · simp [← hw, List.map_ofFn, Function.comp_def, List.ofFn_const]

/-- N blocks of w columns side by side. -/
def cols {N w r : ℕ} (f : Fin N → ((Mat r w).Idx → α)) (hw : N * w = n) (h2 : 2 ≤ N) : (Mat r n).Idx → α :=
  concatenate (Mat r n) 1 (List.ofFn fun c : Fin N => (⟨Mat r w, f c⟩ : (s : Shape) × (s.Idx → α))) (concatenates_cols f hw h2)

/-- N blocks of w rows one below another. -/
def rows {N w r : ℕ} (f : Fin N → ((Mat w r).Idx → α)) (hw : N * w = m) (h2 : 2 ≤ N) : (Mat m r).Idx → α :=
  concatenate (Mat m r) 0 (List.ofFn fun c : Fin N => (⟨Mat w r, f c⟩ : (s : Shape) × (s.Idx → α))) (concatenates_rows f hw h2)

/-- Blocks side by side at an entry: the block and the place in it. -/
theorem cols_apply {N w r : ℕ} (f : Fin N → ((Mat r w).Idx → α)) (hw : N * w = n) (h2 : 2 ≤ N) (i : Fin r) (j : Fin n)
    (c : Fin N) (q : Fin w) (hj : j.val = c.val * w + q.val) : cols f hw h2 (ix2 i j) = f c (ix2 i q) := by
  have hq := q.isLt
  have hd : j.val / w = c.val := by
    rw [hj, Nat.mul_comm, Nat.mul_add_div (by omega), Nat.div_eq_of_lt hq, Nat.add_zero]
  have hm : j.val % w = q.val := by
    rw [hj, Nat.mul_comm, Nat.mul_add_mod, Nat.mod_eq_of_lt hq]
  refine concatenate_ofFn_apply (t := Mat r n) 1 f _ rfl w rfl (ix2 i j) c hd (ix2 i q) hm.symm fun b hb => ?_
  match b with
  | ⟨0, _⟩ => rfl
  | ⟨1, _⟩ => exact absurd rfl hb

/-- Blocks one below another at an entry: the block and the place in it. -/
theorem rows_apply {N w r : ℕ} (f : Fin N → ((Mat w r).Idx → α)) (hw : N * w = m) (h2 : 2 ≤ N) (i : Fin m) (j : Fin r)
    (c : Fin N) (q : Fin w) (hi : i.val = c.val * w + q.val) : rows f hw h2 (ix2 i j) = f c (ix2 q j) := by
  have hq := q.isLt
  have hd : i.val / w = c.val := by
    rw [hi, Nat.mul_comm, Nat.mul_add_div (by omega), Nat.div_eq_of_lt hq, Nat.add_zero]
  have hm : i.val % w = q.val := by
    rw [hi, Nat.mul_comm, Nat.mul_add_mod, Nat.mod_eq_of_lt hq]
  refine concatenate_ofFn_apply (t := Mat m r) 0 f _ rfl w rfl (ix2 i j) c hd (ix2 q j) hm.symm fun b hb => ?_
  match b with
  | ⟨0, _⟩ => exact absurd rfl hb
  | ⟨1, _⟩ => rfl

/-- The two orders of a matrix's rows: those from s on first, then the first s. -/
theorem concatenates_pair {a b r : ℕ} (h : a + b = m) : Shape.Concatenates [Mat a r, Mat b r] (Mat m r) 0 := by
  refine ⟨le_rfl, fun s hs => ?_, ?_⟩
  · rcases List.mem_pair.mp hs with rfl | rfl <;>
    · refine ⟨rfl, fun c hc => ?_⟩
      match c with
      | ⟨0, _⟩ => exact absurd rfl hc
      | ⟨1, _⟩ => rfl
  · simp [← h]

/-- A matrix turned up by a rows: rows a, a + 1, … come first. -/
def turn (x : (Mat m n).Idx → α) (a b : ℕ) (h : b + a = m) : (Mat m n).Idx → α :=
  concatenate (Mat m n) 0
    [⟨Mat b n, cut x a 0 b n (by omega) (by omega)⟩, ⟨Mat a n, cut x 0 0 a n (by omega) (by omega)⟩] (concatenates_pair h)

/-- The turned matrix's upper rows. -/
theorem turn_low (x : (Mat m n).Idx → α) (a b : ℕ) (h : b + a = m) (i : Fin m) (j : Fin n) (hi : i.val < b) :
    turn x a b h (ix2 i j) = x (ix2 ⟨a + i, by omega⟩ j) := by
  refine (concatenate_pair_apply_left (t := Mat m n) 0 _ _ (concatenates_pair h) (ix2 i j) rfl (ix2 ⟨i, hi⟩ j) fun c => ?_).trans ?_
  · match c with
    | ⟨0, _⟩ => rfl
    | ⟨1, _⟩ => rfl
  · rw [cut_apply]; simp

/-- The turned matrix's lower rows. -/
theorem turn_high (x : (Mat m n).Idx → α) (a b : ℕ) (h : b + a = m) (i : Fin m) (j : Fin n) (hi : b ≤ i.val) :
    turn x a b h (ix2 i j) = x (ix2 ⟨i - b, by omega⟩ j) := by
  refine (concatenate_pair_apply_right (t := Mat m n) 0 _ _ (concatenates_pair h) (ix2 i j) rfl rfl (ix2 ⟨i - b, by omega⟩ j) (fun c hc => ?_) ?_).trans ?_
  · match c with
    | ⟨0, _⟩ => exact absurd rfl hc
    | ⟨1, _⟩ => rfl
  · show i.val - b + b = i.val
    omega
  · rw [cut_apply]; simp

end Cert.Net
-- ==== Proof.TileShape.lean ====
/- The tile kernel's body as nine steps: four butterflies, the matrix products, four butterflies. -/
module

public import proofs.«01_k».proof.Proof.Gen.KernelIdeal.Frame
public import proofs.«01_k».proof.Proof.Pieces
@[expose] public section

set_option maxRecDepth 16384

noncomputable section

namespace Cert.Net

open Idealize.ShloMosaic Idealize.ShloMosaic.ValueIdx Cert.KernelIdeal Cert.KernelIdeal.Gen

variable {F : FTy → Type} [FloatOps F]

/-- The other block of a pair of neighbours: 0 and 1, 2 and 3, …. -/
def mate (c : ℕ) : ℕ := c + 1 - 2 * (c % 2)

/-- The mate of a block is a block. -/
theorem mate_lt {N c : ℕ} (hN : N % 2 = 0) (hc : c < N) : mate c < N := by unfold mate; omega

/-- A block ends inside the row. -/
theorem block_le {N w c n : ℕ} (hw : N * w = n) (hc : c < N) : c * w + w ≤ n := by
  rw [← hw, ← Nat.succ_mul]
  exact Nat.mul_le_mul_right w hc

/-- One butterfly of the tile: block c becomes a · block c + b · its mate. -/
def bfly (N w : ℕ) (hw : N * w = 4096) (hN : N % 2 = 0) (h2 : 2 ≤ N) (x : FVec F (Mat 256 4096) .f32)
    (a b : Vec F (Mat 1 4096) .f32) : FVec F (Mat 256 4096) .f32 :=
  cols (N := N) (w := w) (fun c =>
    addf (mulf (rowPart a (c.val * w) w 256 (block_le hw c.isLt) : FVec F (Mat 256 w) .f32)
        (cut x 0 (c.val * w) 256 w le_rfl (block_le hw c.isLt)))
      (mulf (rowPart b (c.val * w) w 256 (block_le hw c.isLt) : FVec F (Mat 256 w) .f32)
        (cut x 0 (mate c.val * w) 256 w le_rfl (block_le hw (mate_lt hN c.isLt))))) hw h2

/-- The matrix products of the tile: block c becomes block c times the block of the first matrix, plus its mate times
    the block of the second. -/
def prods (x : FVec F (Mat 256 4096) .f32) (m1 m2 : Vec F (Mat 4096 128) .f32) : FVec F (Mat 256 4096) .f32 :=
  cols (N := 32) (w := 128) (fun c =>
    addf (matmul (DotDims.transposedRhs 256 128 128) none
        (cut x 0 (c.val * 128) 256 128 le_rfl (block_le (N := 32) rfl c.isLt) : FVec F (Mat 256 128) .f32)
        (shapeCast (Mat 128 128) (load m1 (c.val * 128) 0 128 128 (block_le (N := 32) rfl c.isLt) le_rfl) (by decide) : FVec F (Mat 128 128) .f32)
        (constant (Mat 256 128) .f32 0x00000000#32))
      (matmul (DotDims.transposedRhs 256 128 128) none
        (cut x 0 (mate c.val * 128) 256 128 le_rfl (block_le (N := 32) rfl (mate_lt rfl c.isLt)) : FVec F (Mat 256 128) .f32)
        (shapeCast (Mat 128 128) (load m2 (c.val * 128) 0 128 128 (block_le (N := 32) rfl c.isLt) le_rfl) (by decide) : FVec F (Mat 128 128) .f32)
        (constant (Mat 256 128) .f32 0x00000000#32))) rfl (by decide)

/-- Row r of the four coefficient rows, loaded. -/
abbrev row4 (x : Vec F (Mat 4 4096) .f32) (r : ℕ) (h : r + 1 ≤ 4) : Vec F (Mat 1 4096) .f32 :=
  load (Val := Elt F) (e := .f32) x r 0 1 4096 h le_rfl

section

variable (x0 : Vec F S256x4096 .f32) (x1 x2 x3 x4 : Vec F S4x4096 .f32) (x5 x6 : Vec F S4096x128 .f32)

/-- The first butterfly. -/
theorem stage0 : k2_pay154 x0 x1 x2 x3 x4 x5 x6
    = bfly 2 2048 rfl rfl (by decide) (View.ld x0 r2_0) (row4 x1 0 (by decide)) (row4 x2 0 (by decide)) := rfl

/-- The second butterfly. -/
theorem stage1 : k2_pay160 x0 x1 x2 x3 x4 x5 x6
    = bfly 4 1024 rfl rfl (by decide) (k2_pay154 x0 x1 x2 x3 x4 x5 x6) (row4 x1 1 (by decide)) (row4 x2 1 (by decide)) := rfl

/-- The third butterfly. -/
theorem stage2 : k2_pay171 x0 x1 x2 x3 x4 x5 x6
    = bfly 8 512 rfl rfl (by decide) (k2_pay160 x0 x1 x2 x3 x4 x5 x6) (row4 x1 2 (by decide)) (row4 x2 2 (by decide)) := rfl

/-- The fourth butterfly. -/
theorem stage3 : k2_pay189 x0 x1 x2 x3 x4 x5 x6
    = bfly 16 256 rfl rfl (by decide) (k2_pay171 x0 x1 x2 x3 x4 x5 x6) (row4 x1 3 (by decide)) (row4 x2 3 (by decide)) := rfl

/-- The products. -/
theorem stage4 : k2_pay221 x0 x1 x2 x3 x4 x5 x6 = prods (k2_pay189 x0 x1 x2 x3 x4 x5 x6) x5 x6 := rfl

/-- The first two butterflies after the products. -/
theorem stage6 : k2_pay246 x0 x1 x2 x3 x4 x5 x6
    = bfly 8 512 rfl rfl (by decide)
        (bfly 16 256 rfl rfl (by decide) (k2_pay221 x0 x1 x2 x3 x4 x5 x6) (row4 x3 0 (by decide)) (row4 x4 0 (by decide)))
        (row4 x3 1 (by decide)) (row4 x4 1 (by decide)) := rfl

/-- The whole tile: the stored block as butterflies and products of the loaded ones. -/
def tile : FVec F (Mat 256 4096) .f32 :=
  bfly 2 2048 rfl rfl (by decide) (bfly 4 1024 rfl rfl (by decide) (bfly 8 512 rfl rfl (by decide)
    (bfly 16 256 rfl rfl (by decide) (prods
      (bfly 16 256 rfl rfl (by decide) (bfly 8 512 rfl rfl (by decide) (bfly 4 1024 rfl rfl (by decide)
        (bfly 2 2048 rfl rfl (by decide) x0 (row4 x1 0 (by decide)) (row4 x2 0 (by decide)))
        (row4 x1 1 (by decide)) (row4 x2 1 (by decide)))
        (row4 x1 2 (by decide)) (row4 x2 2 (by decide)))
        (row4 x1 3 (by decide)) (row4 x2 3 (by decide)))
      x5 x6)
      (row4 x3 0 (by decide)) (row4 x4 0 (by decide)))
      (row4 x3 1 (by decide)) (row4 x4 1 (by decide)))
      (row4 x3 2 (by decide)) (row4 x4 2 (by decide)))
      (row4 x3 3 (by decide)) (row4 x4 3 (by decide))

/-- What the tile kernel stores is the tile. -/
theorem out2_eq : out2_7 x0 x1 x2 x3 x4 x5 x6 = tile x0 x1 x2 x3 x4 x5 x6 := by
  refine (View.canon_unit_zero (by funext i; fin_cases i <;> rfl) _ _).trans ?_
  have h : View.ld x0 r2_0 = x0 := View.ld_unit_zero (by funext i; fin_cases i <;> rfl) _ _
  have e0 := stage0 x0 x1 x2 x3 x4 x5 x6
  rw [h] at e0
  have e4 := stage4 x0 x1 x2 x3 x4 x5 x6
  rw [stage3, stage2, stage1, e0] at e4
  have e6 := stage6 x0 x1 x2 x3 x4 x5 x6
  rw [e4] at e6
  unfold tile
  rw [← e6]
  rfl

end

end Cert.Net
-- ==== Proof.ComposeShape.lean ====
/- The compose kernel's body as thirteen layers on the folded identity, and the absorb kernel's body as two scalings and
   two layers. -/
module

public import proofs.«01_k».proof.Proof.Gen.KernelIdeal.Frame
public import proofs.«01_k».proof.Proof.Pieces
@[expose] public section

set_option maxRecDepth 16384

noncomputable section

namespace Cert.Net

open Idealize.ShloMosaic Idealize.ShloMosaic.ValueIdx Cert.KernelIdeal Cert.KernelIdeal.Gen

variable {F : FTy → Type} [FloatOps F]

/-- The row of each entry. -/
def rowNumber : IVec (Mat 4096 128) 32 := iota .tc (Mat 4096 128) 32 [0] iota_S4096x128_d0_w32

/-- The folded identity: entry (p, q) is one where q is the remainder of p by 128. -/
def folded : FVec F (Mat 4096 128) .f32 :=
  let n : BitVec 32 := Scalar.select (Scalar.cmpi .eq 128#32 0#32) 1#32 128#32
  let r : IVec (Mat 4096 128) 32 := remsi rowNumber (broadcast (Mat 4096 128) n)
  select
    (cmpi .eq
      (select
        (andi
          (xori (cmpi .slt r (broadcast (Mat 4096 128) 0#32))
            (broadcastTo (Mat 4096 128) (broadcast (Mat 4096 128) (Scalar.cmpi .slt n 0#32)) broadcasts_S4096x128_S4096x128))
          (cmpi .ne r (broadcast (Mat 4096 128) 0#32)))
        (addi r (broadcast (Mat 4096 128) n)) r)
      (iota .tc (Mat 4096 128) 32 [1] iota_S4096x128_d1_w32))
    (broadcast (Mat 4096 128) (Scalar.ofBits .f32 0x3F800000#32)) (broadcast (Mat 4096 128) (Scalar.ofBits .f32 0x00000000#32))

/-- Rows s apart exchanged: row p becomes row p + s where p's bit s is clear, row p - s where it is set. -/
def swapRows (s : ℕ) (hs : s ≤ 4096) (x : FVec F (Mat 4096 128) .f32) : FVec F (Mat 4096 128) .f32 :=
  select (cmpi .eq (andi rowNumber (broadcast (Mat 4096 128) (BitVec.ofNat 32 s))) (broadcast (Mat 4096 128) 0#32))
    (turn x s (4096 - s) (by omega)) (turn x (4096 - s) s (by omega))

/-- A column of coefficients over the matrix. -/
def spreadCol (a : Vec F (Mat 4096 1) .f32) : FVec F (Mat 4096 128) .f32 :=
  broadcastTo (Mat 4096 128) (shapeCast (Mat 4096 1) a shapeCasts_S4096x1_S4096x1 : FVec F (Mat 4096 1) .f32) (spreads_col 4096 128)

/-- One layer on the rows: a · x + b · y with the rows of y exchanged. -/
def mix (s : ℕ) (hs : s ≤ 4096) (a b : Vec F (Mat 4096 1) .f32) (x y : FVec F (Mat 4096 128) .f32) : FVec F (Mat 4096 128) .f32 :=
  addf (mulf (spreadCol a) x) (mulf (spreadCol b) (swapRows s hs y))

/-- Column t of the thirteen, loaded. -/
abbrev col13 (x : Vec F (Mat 4096 13) .f32) (t : ℕ) (h : t + 1 ≤ 13) : Vec F (Mat 4096 1) .f32 :=
  load (Val := Elt F) (e := .f32) x 0 t 4096 1 le_rfl h

/-- Layer t of the thirteen. -/
abbrev layer13 (x0 x1 : Vec F (Mat 4096 13) .f32) (s : ℕ) (hs : s ≤ 4096) (t : ℕ) (h : t + 1 ≤ 13)
    (x : FVec F (Mat 4096 128) .f32) : FVec F (Mat 4096 128) .f32 :=
  mix s hs (col13 x0 t h) (col13 x1 t h) x x

section

variable (x0 x1 : Vec F S4096x13 .f32)

/-- The first three layers. -/
theorem early : k0_pay26 x0 x1
    = layer13 x0 x1 16 (by decide) 2 (by decide) (layer13 x0 x1 32 (by decide) 1 (by decide)
        (layer13 x0 x1 64 (by decide) 0 (by decide) folded)) := rfl

/-- The next seven layers. -/
theorem middle : k0_pay30 x0 x1
    = layer13 x0 x1 8 (by decide) 9 (by decide) (layer13 x0 x1 4 (by decide) 8 (by decide)
        (layer13 x0 x1 2 (by decide) 7 (by decide) (layer13 x0 x1 1 (by decide) 6 (by decide)
        (layer13 x0 x1 2 (by decide) 5 (by decide) (layer13 x0 x1 4 (by decide) 4 (by decide)
        (layer13 x0 x1 8 (by decide) 3 (by decide) (k0_pay26 x0 x1))))))) := rfl

/-- The thirteen layers on the folded identity. -/
def compose : FVec F (Mat 4096 128) .f32 :=
  layer13 x0 x1 64 (by decide) 12 (by decide) (layer13 x0 x1 32 (by decide) 11 (by decide)
    (layer13 x0 x1 16 (by decide) 10 (by decide)
    (layer13 x0 x1 8 (by decide) 9 (by decide) (layer13 x0 x1 4 (by decide) 8 (by decide)
    (layer13 x0 x1 2 (by decide) 7 (by decide) (layer13 x0 x1 1 (by decide) 6 (by decide)
    (layer13 x0 x1 2 (by decide) 5 (by decide) (layer13 x0 x1 4 (by decide) 4 (by decide)
    (layer13 x0 x1 8 (by decide) 3 (by decide)
    (layer13 x0 x1 16 (by decide) 2 (by decide) (layer13 x0 x1 32 (by decide) 1 (by decide)
    (layer13 x0 x1 64 (by decide) 0 (by decide) folded))))))))))))

/-- What the compose kernel stores. -/
theorem out0_eq : out0_2 x0 x1 = compose x0 x1 := by
  refine (View.canon_unit_zero (by funext i; fin_cases i <;> rfl) _ _).trans ?_
  have e := middle x0 x1
  rw [early] at e
  unfold compose
  rw [← e]
  rfl

end

/-- Block c of a matrix's rows, column q of it scaled by the row's entry 128 c + q. -/
def scaled (x : Vec F (Mat 4096 128) .f32) (v : Vec F (Mat 2 4096) .f32) (r : ℕ) (hr : r + 1 ≤ 2) : FVec F (Mat 4096 128) .f32 :=
  rows (N := 32) (w := 128) (fun c =>
    mulf (shapeCast (Mat 128 128) (load (Val := Elt F) (e := .f32) x (c.val * 128) 0 128 128 (by have := c.isLt; omega) le_rfl)
        shapeCasts_S128x128_S128x128 : FVec F (Mat 128 128) .f32)
      (broadcastTo (Mat 128 128) (shapeCast (Mat 1 128) (shapeCast ⟨1, ![128]⟩
        (load (Val := Elt F) (e := .f32) v r (c.val * 128) 1 128 hr (by have := c.isLt; omega)) (casts_row 128)) (casts_row' 128))
        (spreads_row 128 128) : FVec F (Mat 128 128) .f32)) rfl (by decide)

/-- Column t of the two, loaded. -/
abbrev col2 (x : Vec F (Mat 4096 2) .f32) (t : ℕ) (h : t + 1 ≤ 2) : Vec F (Mat 4096 1) .f32 :=
  load (Val := Elt F) (e := .f32) x 0 t 4096 1 le_rfl h

section

variable (x0 : Vec F S4096x128 .f32) (x1 : Vec F S2x4096 .f32) (x2 : Vec F S4096x2 .f32)

/-- The matrix scaled by the second row. -/
theorem scaled1 : k1_pay134 x0 x1 x2 = scaled x0 x1 1 (by decide) := rfl

/-- What the absorb kernel stores first. -/
theorem out1a_eq : out1_3 x0 x1 x2
    = mix 128 (by decide) (col2 x2 0 (by decide)) (col2 x2 1 (by decide)) (scaled x0 x1 0 (by decide)) (scaled x0 x1 1 (by decide)) := by
  refine (View.canon_unit_zero (by funext i; fin_cases i <;> rfl) _ _).trans ?_
  rw [← scaled1 x0 x1 x2]
  rfl

/-- What the absorb kernel stores second. -/
theorem out1b_eq : out1_4 x0 x1 x2
    = mix 128 (by decide) (col2 x2 0 (by decide)) (col2 x2 1 (by decide)) (scaled x0 x1 1 (by decide)) (scaled x0 x1 0 (by decide)) := by
  refine (View.canon_unit_zero (by funext i; fin_cases i <;> rfl) _ _).trans ?_
  rw [← scaled1 x0 x1 x2]
  rfl

end

end Cert.Net
-- ==== Proof.Network.lean ====
/- The Benes network over the reals: layers that join positions a power of two apart, and the two facts the kernel rests
   on — layers inside blocks of 128 are one 128-column matrix, and a layer before and one after are absorbed in two. -/
module

public import Idealize.ShloMosaic.Lib.MatmulPlain
public import Mathlib.Tactic.IntervalCases
public import Mathlib.Tactic.Ring
public import Mathlib.Algebra.BigOperators.Ring.Finset
@[expose] public section

namespace Cert.Net

/-- The position s away from p, in the same block of 2 s. -/
def swap (s p : ℕ) : ℕ := if p / s % 2 = 0 then p + s else p - s

/-- One layer: each position is a combination of itself and of the position s away. -/
def layer (s : ℕ) (a b X : ℕ → ℝ) (p : ℕ) : ℝ := a p * X p + b p * X (swap s p)

/-- The distance layer l joins. -/
def stride (l : ℕ) : ℕ := 2 ^ (if l ≤ 11 then 11 - l else l - 11)

/-- Where in layer l's 8192 numbers the one kept at p is (h the bit of p), or the one carried to p (h its complement). -/
def place (s p h : ℕ) : ℕ := p / (2 * s) * (4 * s) + h * (2 * s) + p % (2 * s)

/-- The coefficient of position p itself in layer l. -/
def keep (V : ℕ → ℕ → ℝ) (l p : ℕ) : ℝ := V l (place (stride l) p (p / stride l % 2))

/-- The coefficient of the position away from p in layer l. -/
def carry (V : ℕ → ℕ → ℝ) (l p : ℕ) : ℝ := V l (place (stride l) p (1 - p / stride l % 2))

/-- The first n layers. -/
def net (V : ℕ → ℕ → ℝ) (X : ℕ → ℝ) : ℕ → ℕ → ℝ
  | 0 => X
  | n + 1 => layer (stride n) (keep V n) (carry V n) (net V X n)

/-- A position exchanged inside a block of 128 stays there. -/
theorem swap_div {k : ℕ} (hk : k ≤ 6) (p : ℕ) : swap (2 ^ k) p / 128 = p / 128 := by
  unfold swap
  interval_cases k <;> simp only [Nat.reducePow] <;> split <;> omega

/-- A position exchanged with the one 128 away: the neighbouring block, the same place. -/
theorem swap_block (c q : ℕ) (hq : q < 128) : swap 128 (128 * c + q) = 128 * (c + 1 - 2 * (c % 2)) + q := by
  unfold swap
  split <;> omega

/-- A matrix of 128 columns stands for a map of positions that keeps the blocks of 128. -/
def Stands (M : ℕ → ℕ → ℝ) (X Y : ℕ → ℝ) : Prop :=
  ∀ p, Y p = ∑ q ∈ Finset.range 128, M p q * X (128 * (p / 128) + q)

/-- The folded identity stands for the identity. -/
theorem Stands.identity (X : ℕ → ℝ) : Stands (fun p q => if p % 128 = q then 1 else 0) X X := by
  intro p
  rw [Finset.sum_eq_single (p % 128)]
  · simp [Nat.div_add_mod]
  · intro q _ hq
    simp [Ne.symm hq]
  · intro h
    exact absurd (Finset.mem_range.mpr (Nat.mod_lt p (by decide))) h

/-- A layer inside the blocks, applied to every column, stands for the layer after the map. -/
theorem Stands.layer {M : ℕ → ℕ → ℝ} {X Y : ℕ → ℝ} (h : Stands M X Y) {k : ℕ} (hk : k ≤ 6) (a b : ℕ → ℝ) :
    Stands (fun p q => Net.layer (2 ^ k) a b (fun r => M r q) p) X (Net.layer (2 ^ k) a b Y) := by
  intro p
  have h1 := h (swap (2 ^ k) p)
  rw [swap_div hk] at h1
  simp only [Net.layer]
  rw [h p, h1, Finset.mul_sum, Finset.mul_sum, ← Finset.sum_add_distrib]
  exact Finset.sum_congr rfl fun q _ => by ring

/-- The first absorbed matrix. -/
def first (M : ℕ → ℕ → ℝ) (a b c d : ℕ → ℝ) (p q : ℕ) : ℝ :=
  c p * (M p q * a (128 * (p / 128) + q)) + d p * (M (swap 128 p) q * b (128 * (swap 128 p / 128) + q))

/-- The absorbed matrices stand, together, for the map with a layer at distance 128 before it and one after it. -/
theorem absorbed {M : ℕ → ℕ → ℝ} (T : (ℕ → ℝ) → ℕ → ℝ) (hT : ∀ X, Stands M X (T X)) (a b c d X : ℕ → ℝ) (p : ℕ) :
    layer 128 c d (T (layer 128 a b X)) p
      = ∑ q ∈ Finset.range 128, X (128 * (p / 128) + q) * first M a b c d p q
        + ∑ q ∈ Finset.range 128, X (128 * (p / 128 + 1 - 2 * (p / 128 % 2)) + q) * first M b a c d p q := by
  have hs : swap 128 p / 128 = p / 128 + 1 - 2 * (p / 128 % 2) := by
    unfold swap
    split <;> omega
  have hss : swap 128 p / 128 + 1 - 2 * (swap 128 p / 128 % 2) = p / 128 := by omega
  rw [← Finset.sum_add_distrib]
  unfold layer
  rw [hT _ p, hT _ (swap 128 p), Finset.mul_sum, Finset.mul_sum, ← Finset.sum_add_distrib]
  refine Finset.sum_congr rfl fun q hq => ?_
  have hq := Finset.mem_range.mp hq
  rw [swap_block _ _ hq, swap_block _ _ hq, hss]
  unfold first
  rw [hs]
  ring

end Cert.Net
-- ==== Proof.Readings.lean ====
/- What the three kernels' pieces compute over the reals: every array of finite entries is read as a function of two
   numbers, and each step is the corresponding step of the network. -/
module

public import proofs.«01_k».proof.Proof.TileShape
public import proofs.«01_k».proof.Proof.ComposeShape
public import proofs.«01_k».proof.Proof.Network
public import Idealize.ShloMosaic.Lib.WordCmp
public import Idealize.ShloMosaic.Lib.Routing.Words
public import Mathlib.Data.Nat.Bitwise
@[expose] public section

set_option maxRecDepth 16384

noncomputable section

namespace Cert.Net

open Idealize.ShloMosaic Idealize.ShloMosaic.ValueIdx Idealize.ShloMosaic.WordCmp Cert.KernelIdeal Cert.KernelIdeal.Gen

variable {m n : ℕ}

/-- The entries of the array are the real numbers X i j. -/
def Reads (x : FVec Ideal (Mat m n) .f32) (X : ℕ → ℕ → ℝ) : Prop :=
  ∀ (i : Fin m) (j : Fin n), x (ix2 i j) = ((X i j : ℝ) : EReal)

/-- The same array read as a function with the same values. -/
theorem Reads.congr {x : FVec Ideal (Mat m n) .f32} {X Y : ℕ → ℕ → ℝ} (h : Reads x X)
    (e : ∀ i < m, ∀ j < n, X i j = Y i j) : Reads x Y := fun i j => by rw [h i j, e i i.isLt j j.isLt]

/-- A combination of two reals, as extended reals. -/
theorem coe_mix (a b c d : ℝ) : ((a : EReal) * b + (c : EReal) * d : EReal) = ((a * b + c * d : ℝ) : EReal) := by
  rw [EReal.coe_add, EReal.coe_mul, EReal.coe_mul]

/-- A sum of reals, as extended reals. -/
theorem coe_sum (k : ℕ) (f : ℕ → ℝ) : (∑ q : Fin k, ((f q : ℝ) : EReal)) = ((∑ q ∈ Finset.range k, f q : ℝ) : EReal) := by
  rw [Fin.sum_univ_eq_sum_range (fun q => ((f q : ℝ) : EReal))]
  induction k with
  | zero => simp
  | succ k ih => rw [Finset.sum_range_succ, Finset.sum_range_succ, EReal.coe_add, ih]

/-- A loaded block, read. -/
theorem Reads.load {x : FVec Ideal (Mat m n) .f32} {X : ℕ → ℕ → ℝ} (h : Reads x X) (a b k l : ℕ) (h0 : a + k ≤ m) (h1 : b + l ≤ n) :
    Reads (Net.load (Val := Elt Ideal) (e := .f32) x a b k l h0 h1) (fun i j => X (a + i) (b + j)) :=
  fun i j => (load_apply (Val := Elt Ideal) (e := .f32) x a b k l h0 h1 i j).trans (h _ _)

/-- Where block c's place q is, its mate's is the exchanged position. -/
theorem mate_swap {c w q j : ℕ} (hq : q < w) (hj : j = c * w + q) : mate c * w + q = swap w j := by
  have hd : j / w = c := by
    rw [hj, Nat.mul_comm, Nat.mul_add_div (by omega), Nat.div_eq_of_lt hq, Nat.add_zero]
  unfold swap mate
  rw [hd, hj]
  rcases Nat.mod_two_eq_zero_or_one c with h | h
  · rw [h, if_pos rfl, show c + 1 - 2 * 0 = c + 1 by omega, Nat.succ_mul]; omega
  · rw [h, if_neg (by decide)]
    obtain ⟨d, rfl⟩ : ∃ d, c = d + 1 := ⟨c - 1, by omega⟩
    rw [show d + 1 + 1 - 2 * 1 = d by omega, Nat.succ_mul]; omega

/-- A butterfly of the tile is a layer. -/
theorem Reads.bfly {N w : ℕ} (hw : N * w = 4096) (hN : N % 2 = 0) (h2 : 2 ≤ N) {x : FVec Ideal (Mat 256 4096) .f32}
    {a b : FVec Ideal (Mat 1 4096) .f32} {X : ℕ → ℕ → ℝ} {A B : ℕ → ℝ} (hx : Reads x X) (ha : Reads a (fun _ => A))
    (hb : Reads b (fun _ => B)) : Reads (Net.bfly N w hw hN h2 x a b) (fun i => layer w A B (X i)) := by
  intro i j
  have hwp : 0 < w := by
    rcases Nat.eq_zero_or_pos w with h | h
    · subst h; simp at hw
    · exact h
  have hq := Nat.mod_lt j.val hwp
  have hc : j.val / w < N := by
    rw [Nat.div_lt_iff_lt_mul hwp, hw]; exact j.isLt
  have hj : j.val = j.val / w * w + j.val % w := (Nat.div_add_mod' _ _).symm
  have hm := mate_swap hq hj
  refine (cols_apply _ hw h2 i j ⟨j.val / w, hc⟩ ⟨j.val % w, hq⟩ hj).trans ?_
  show (rowPart a _ w 256 _ (ix2 i _) : EReal) * cut x _ _ _ _ _ _ (ix2 i _) + rowPart b _ w 256 _ (ix2 i _) * cut x _ _ _ _ _ _ (ix2 i _) = _
  rw [rowPart_apply, rowPart_apply, cut_apply, cut_apply, ha, hb, hx, hx, coe_mix]
  simp only [Nat.zero_add, hm, ← hj]
  rfl

/-- The tile's products: each block of 128 against the two matrices. -/
theorem Reads.prods {x : FVec Ideal (Mat 256 4096) .f32} {m1 m2 : FVec Ideal (Mat 4096 128) .f32} {X M1 M2 : ℕ → ℕ → ℝ}
    (hx : Reads x X) (h1 : Reads m1 M1) (h2 : Reads m2 M2) :
    Reads (Net.prods x m1 m2) (fun i p =>
      ∑ q ∈ Finset.range 128, X i (128 * (p / 128) + q) * M1 p q
        + ∑ q ∈ Finset.range 128, X i (128 * (p / 128 + 1 - 2 * (p / 128 % 2)) + q) * M2 p q) := by
  intro i j
  have hq := Nat.mod_lt j.val (show 0 < 128 by decide)
  have hc : j.val / 128 < 32 := by omega
  have hj : j.val = j.val / 128 * 128 + j.val % 128 := (Nat.div_add_mod' _ _).symm
  refine (cols_apply (N := 32) (w := 128) _ rfl (by decide) i j ⟨j.val / 128, hc⟩ ⟨j.val % 128, hq⟩ hj).trans ?_
  have key : ∀ (c : ℕ) (hcc : c * 128 + 128 ≤ 4096) (mm : FVec Ideal (Mat 4096 128) .f32) (M : ℕ → ℕ → ℝ), Reads mm M →
      ∀ (hd : j.val / 128 * 128 + 128 ≤ 4096) (hs : (Mat 128 128).ShapeCasts (Mat 128 128)),
      (FloatOps.matmul (F := Ideal) (DotDims.transposedRhs 256 128 128) none (cut x 0 (c * 128) 256 128 le_rfl hcc : FVec Ideal (Mat 256 128) .f32)
        (shapeCast (Mat 128 128) (Net.load (Val := Elt Ideal) (e := .f32) mm (j.val / 128 * 128) 0 128 128 hd le_rfl) hs : FVec Ideal (Mat 128 128) .f32)
        (constant (Mat 256 128) .f32 0x00000000#32) (ix2 i ⟨j.val % 128, hq⟩) : EReal)
      = ((∑ q ∈ Finset.range 128, X i (128 * c + q) * M j q : ℝ) : EReal) := by
    intro c hcc mm M hmm hd hs
    rw [Ideal.matmul_transposedRhs_apply, shapeCast_self]
    have hz : ((constant (Mat 256 128) .f32 0x00000000#32 : FVec Ideal (Mat 256 128) .f32) (ix2 i ⟨j.val % 128, hq⟩) : EReal) = 0 := by
      show Ideal.ofBits .f32 0x00000000#32 = 0
      simp [Ideal.ofBits, Ideal.ieee]
    rw [hz, zero_add, ← coe_sum]
    refine Finset.sum_congr rfl fun q _ => ?_
    rw [cut_apply, hx, hmm.load _ _ _ _ hd le_rfl, ← EReal.coe_mul]
    simp only [Nat.zero_add, ← hj, Nat.mul_comm c 128]
  show (FloatOps.matmul (F := Ideal) _ _ _ _ _ _ : EReal) + FloatOps.matmul (F := Ideal) _ _ _ _ _ _ = _
  refine (congrArg₂ (· + ·) (key (j.val / 128) (by omega) m1 M1 h1 (by omega) (by decide))
    (key (mate (j.val / 128)) (by unfold mate; omega) m2 M2 h2 (by omega) (by decide))).trans ?_
  rw [← EReal.coe_add]
  rfl

/-- A row of four, loaded. -/
theorem Reads.row4 {x : FVec Ideal (Mat 4 4096) .f32} {X : ℕ → ℕ → ℝ} (h : Reads x X) (r : ℕ) (hr : r + 1 ≤ 4) :
    Reads (m := 1) (n := 4096) (Net.row4 (F := Ideal) x r hr) (fun _ => X r) :=
  (h.load r 0 1 4096 hr le_rfl).congr fun i hi j _ => by
    obtain rfl : i = 0 := by omega
    simp

/-- The bit test of the row number. -/
theorem bit_test {k p : ℕ} (hk : k < 32) (hp : p < 2 ^ 32) :
    IntOp.cmpi .eq (IntOp.andi (BitVec.ofNat 32 p) (BitVec.ofNat 32 (2 ^ k))) 0#32 = BitVec.ofBool (decide (p / 2 ^ k % 2 = 0)) := by
  have h2 : (2 : ℕ) ^ k < 2 ^ 32 := Nat.pow_lt_pow_right (by decide) hk
  show BitVec.ofBool (BitVec.ofNat 32 p &&& BitVec.ofNat 32 (2 ^ k) == 0#32) = _
  congr 1
  rw [Bool.eq_iff_iff, beq_iff_eq, decide_eq_true_iff, ← BitVec.toNat_inj, BitVec.toNat_and, BitVec.toNat_ofNat, BitVec.toNat_ofNat,
    Nat.mod_eq_of_lt hp, Nat.mod_eq_of_lt h2, Nat.and_two_pow, Nat.testBit_eq_decide_div_mod_eq]
  rcases Nat.mod_two_eq_zero_or_one (p / 2 ^ k) with h | h <;> simp [h]

/-- Rows exchanged, read. -/
theorem Reads.swapRows {k : ℕ} (hk : k ≤ 7) (hs : 2 ^ k ≤ 4096) {x : FVec Ideal (Mat 4096 128) .f32} {X : ℕ → ℕ → ℝ}
    (hx : Reads x X) : Reads (Net.swapRows (2 ^ k) hs x) (fun p => X (swap (2 ^ k) p)) := by
  intro i j
  unfold Net.swapRows rowNumber
  rw [select_at, cmpi_at, andi_at, broadcast_at, broadcast_at, iota_single_apply]
  show Scalar.select (IntOp.cmpi .eq (IntOp.andi (BitVec.ofNat 32 i.val) _) _) _ _ = _
  rw [bit_test (by omega) (by omega), select_decide]
  unfold swap
  have hi := i.isLt
  split
  · rename_i h
    rw [turn_low _ _ _ _ i j (by interval_cases k <;> simp only [Nat.reducePow] at h ⊢ <;> omega), hx]
    simp only [if_pos h, Nat.add_comm]
  · rename_i h
    rw [turn_high _ _ _ _ i j (by interval_cases k <;> simp only [Nat.reducePow] at h ⊢ <;> omega), hx]
    simp only [if_neg h]

/-- One layer on the rows, read. -/
theorem Reads.mix {k : ℕ} (hk : k ≤ 7) (hs : 2 ^ k ≤ 4096) {a b : FVec Ideal (Mat 4096 1) .f32} {x y : FVec Ideal (Mat 4096 128) .f32}
    {A B : ℕ → ℝ} {X Y : ℕ → ℕ → ℝ} (ha : Reads a (fun p _ => A p)) (hb : Reads b (fun p _ => B p)) (hx : Reads x X) (hy : Reads y Y) :
    Reads (Net.mix (2 ^ k) hs a b x y) (fun p q => A p * X p q + B p * Y (swap (2 ^ k) p) q) := by
  intro i j
  show (spreadCol (F := Ideal) a (ix2 i j) : EReal) * x (ix2 i j) + spreadCol (F := Ideal) b (ix2 i j) * Net.swapRows (2 ^ k) hs y (ix2 i j) = _
  unfold spreadCol
  rw [spreadCol_apply, spreadCol_apply, shapeCast_self, shapeCast_self, ha, hb, hx, hy.swapRows hk hs, coe_mix]

/-- The sign correction of a remainder by 128 does nothing to one that is not negative. -/
theorem sign_kept (r : ℕ) (hr : r < 128) :
    Scalar.select
      (IntOp.andi (IntOp.xori (IntOp.cmpi .slt (BitVec.ofNat 32 r) 0#32) (IntOp.cmpi .slt 128#32 0#32))
        (IntOp.cmpi .ne (BitVec.ofNat 32 r) 0#32))
      (BitVec.ofNat 32 r + 128#32) (BitVec.ofNat 32 r) = BitVec.ofNat 32 r := by
  revert r
  decide

/-- The folded identity, read. -/
theorem reads_folded : Reads folded (fun p q => if p % 128 = q then 1 else 0) := by
  intro i j
  have hi := i.isLt
  have hj := j.isLt
  have hr : remsi rowNumber (broadcast (Mat 4096 128) 128#32) (ix2 i j) = BitVec.ofNat 32 (i.val % 128) := by
    refine Eq.trans ?_ (Routing.remsi_word .vector (a := i.val) (b := 128) (by omega) (by decide) (by decide))
    unfold rowNumber
    show IntOp.remsi .vector (iota _ _ _ _ _ (ix2 i j)) _ = _
    rw [iota_single_apply]
    rfl
  show Scalar.select (IntOp.cmpi .eq
    (Scalar.select
      (IntOp.andi (IntOp.xori (IntOp.cmpi .slt (remsi rowNumber (broadcast (Mat 4096 128) 128#32) (ix2 i j)) 0#32) (IntOp.cmpi .slt 128#32 0#32))
        (IntOp.cmpi .ne (remsi rowNumber (broadcast (Mat 4096 128) 128#32) (ix2 i j)) 0#32))
      (remsi rowNumber (broadcast (Mat 4096 128) 128#32) (ix2 i j) + 128#32)
      (remsi rowNumber (broadcast (Mat 4096 128) 128#32) (ix2 i j)))
    (iota .tc (Mat 4096 128) 32 [1] iota_S4096x128_d1_w32 (ix2 i j))) (Ideal.ofBits .f32 0x3F800000#32) (Ideal.ofBits .f32 0x00000000#32) = _
  rw [hr, sign_kept _ (Nat.mod_lt _ (by decide)), iota_single_apply]
  show Scalar.select (BitVec.ofBool (BitVec.ofNat 32 (i.val % 128) == BitVec.ofNat 32 j.val)) _ _ = _
  rw [select_ofBool]
  have e : (BitVec.ofNat 32 (i.val % 128) == BitVec.ofNat 32 j.val) = true ↔ i.val % 128 = j.val := by
    rw [beq_iff_eq, ← BitVec.toNat_inj, BitVec.toNat_ofNat, BitVec.toNat_ofNat,
      Nat.mod_eq_of_lt (show i.val % 128 < 2 ^ 32 by omega), Nat.mod_eq_of_lt (show j.val < 2 ^ 32 by omega)]
  have one : Ideal.ofBits .f32 0x3F800000#32 = ((1 : ℝ) : EReal) := by
    simp [Ideal.ofBits, Ideal.ieee]
    rw [← EReal.coe_one, ← EReal.coe_mul]
    norm_num
  have zero : Ideal.ofBits .f32 0x00000000#32 = ((0 : ℝ) : EReal) := by
    simp [Ideal.ofBits, Ideal.ieee]
  simp only [e]
  split
  · exact one
  · exact zero

/-- A matrix with its columns scaled block by block, read. -/
theorem Reads.scaled {x : FVec Ideal (Mat 4096 128) .f32} {v : FVec Ideal (Mat 2 4096) .f32} {X V : ℕ → ℕ → ℝ}
    (hx : Reads x X) (hv : Reads v V) (r : ℕ) (hr : r + 1 ≤ 2) :
    Reads (Net.scaled x v r hr) (fun p q => X p q * V r (128 * (p / 128) + q)) := by
  intro i j
  have hq := Nat.mod_lt i.val (show 0 < 128 by decide)
  have hc : i.val / 128 < 32 := by omega
  have hi : i.val = i.val / 128 * 128 + i.val % 128 := (Nat.div_add_mod' _ _).symm
  refine (rows_apply (N := 32) (w := 128) _ rfl (by decide) i j ⟨i.val / 128, hc⟩ ⟨i.val % 128, hq⟩ hi).trans ?_
  show (shapeCast (Mat 128 128) _ _ _ : EReal) * broadcastTo (Mat 128 128) _ _ _ = _
  rw [shapeCast_self, spreadRow_apply, hx.load _ _ _ _ _ _]
  rw [shapeCast_apply _ _ _ (ix1 j) (by rw [Shape.rowMajor_val_one, Shape.rowMajor_val_two]; show j.val = 0 * 128 + j.val; omega),
    shapeCast_apply _ _ _ (ix2 0 j) (by rw [Shape.rowMajor_val_one, Shape.rowMajor_val_two]; show 0 * 128 + j.val = j.val; omega),
    hv.load _ _ _ _ _ _, ← EReal.coe_mul]
  simp only [← hi, Nat.zero_add, Nat.mul_comm (i.val / 128) 128, Fin.val_zero, Nat.add_zero, Nat.div_add_mod]

end Cert.Net
-- ==== Proof.KernelValue.lean ====
/- The three kernels together: from coefficient arrays that hold the network's numbers, the tile kernel's block is the
   block of inputs through all twenty-three layers. -/
module

public import proofs.«01_k».proof.Proof.Readings
@[expose] public section

set_option maxRecDepth 16384

noncomputable section

namespace Cert.Net

open Idealize.ShloMosaic Idealize.ShloMosaic.ValueIdx Cert.KernelIdeal Cert.KernelIdeal.Gen

variable {V : ℕ → ℕ → ℝ}

/-- Layers 5, 6, …, n of them. -/
def mid (V : ℕ → ℕ → ℝ) (X : ℕ → ℝ) : ℕ → ℕ → ℝ
  | 0 => X
  | n + 1 => layer (stride (5 + n)) (keep V (5 + n)) (carry V (5 + n)) (mid V X n)

/-- The first layers, then the middle ones. -/
theorem net_mid (X : ℕ → ℝ) (n : ℕ) : net V X (5 + n) = mid V (net V X 5) n := by
  induction n with
  | zero => rfl
  | succ n ih =>
    show layer _ _ _ (net V X (5 + n)) = _
    rw [ih]
    rfl

/-- The array's numbers stand for the first n middle layers. -/
def Composed (V : ℕ → ℕ → ℝ) (x : FVec Ideal (Mat 4096 128) .f32) (n : ℕ) : Prop :=
  ∃ M, Reads x M ∧ ∀ X, Stands M X (mid V X n)

/-- Before any layer the matrix is the identity. -/
theorem composed_folded : Composed V folded 0 := ⟨_, reads_folded, fun X => Stands.identity X⟩

/-- One more layer of the compose kernel. -/
theorem Composed.next {x0 x1 : FVec Ideal (Mat 4096 13) .f32} (h0 : Reads x0 (fun p t => keep V (5 + t) p))
    (h1 : Reads x1 (fun p t => carry V (5 + t) p)) {n : ℕ} (hn : n + 1 ≤ 13) {x : FVec Ideal (Mat 4096 128) .f32}
    (h : Composed V x n) (s k : ℕ) (hs : s ≤ 4096) (hk : k ≤ 6) (es : s = 2 ^ k) (el : s = stride (5 + n)) :
    Composed V (layer13 x0 x1 s hs n hn x) (n + 1) := by
  obtain ⟨M, hM, hS⟩ := h
  subst es
  have ca : Reads (m := 4096) (n := 1) (col13 (F := Ideal) x0 n hn) (fun p _ => keep V (5 + n) p) :=
    (h0.load 0 n 4096 1 le_rfl hn).congr fun i _ j hj => by
      obtain rfl : j = 0 := by omega
      simp
  have cb : Reads (m := 4096) (n := 1) (col13 (F := Ideal) x1 n hn) (fun p _ => carry V (5 + n) p) :=
    (h1.load 0 n 4096 1 le_rfl hn).congr fun i _ j hj => by
      obtain rfl : j = 0 := by omega
      simp
  refine ⟨_, Reads.mix (k := k) (by omega) hs ca cb hM hM, fun X => ?_⟩
  have := (hS X).layer hk (keep V (5 + n)) (carry V (5 + n))
  show Stands _ X (layer (stride (5 + n)) _ _ _)
  rw [← el]
  exact this

/-- The compose kernel's array stands for the thirteen middle layers. -/
theorem composed {x0 x1 : FVec Ideal (Mat 4096 13) .f32} (h0 : Reads x0 (fun p t => keep V (5 + t) p))
    (h1 : Reads x1 (fun p t => carry V (5 + t) p)) : Composed V (compose (F := Ideal) x0 x1) 13 := by
  have c1 := composed_folded (V := V) |>.next h0 h1 (by decide) 64 6 (by decide) (by decide) rfl rfl
  have c2 := c1.next h0 h1 (by decide) 32 5 (by decide) (by decide) rfl rfl
  have c3 := c2.next h0 h1 (by decide) 16 4 (by decide) (by decide) rfl rfl
  have c4 := c3.next h0 h1 (by decide) 8 3 (by decide) (by decide) rfl rfl
  have c5 := c4.next h0 h1 (by decide) 4 2 (by decide) (by decide) rfl rfl
  have c6 := c5.next h0 h1 (by decide) 2 1 (by decide) (by decide) rfl rfl
  have c7 := c6.next h0 h1 (by decide) 1 0 (by decide) (by decide) rfl rfl
  have c8 := c7.next h0 h1 (by decide) 2 1 (by decide) (by decide) rfl rfl
  have c9 := c8.next h0 h1 (by decide) 4 2 (by decide) (by decide) rfl rfl
  have c10 := c9.next h0 h1 (by decide) 8 3 (by decide) (by decide) rfl rfl
  have c11 := c10.next h0 h1 (by decide) 16 4 (by decide) (by decide) rfl rfl
  have c12 := c11.next h0 h1 (by decide) 32 5 (by decide) (by decide) rfl rfl
  exact c12.next h0 h1 (by decide) 64 6 (by decide) (by decide) rfl rfl

/-- Two numbers, the first at 0 and the second elsewhere. -/
def pick (a b : ℕ → ℝ) (r p : ℕ) : ℝ := if r = 0 then a p else b p

/-- One column of the two, read. -/
theorem Reads.col2 {x : FVec Ideal (Mat 4096 2) .f32} {a b : ℕ → ℝ} (h : Reads x (fun p t => pick a b t p)) (t : ℕ) (ht : t + 1 ≤ 2) :
    Reads (m := 4096) (n := 1) (Net.col2 (F := Ideal) x t ht) (fun p _ => pick a b t p) :=
  (h.load 0 t 4096 1 le_rfl ht).congr fun i _ j hj => by
    obtain rfl : j = 0 := by omega
    simp

/-- The two absorbed arrays, read. -/
theorem reads_absorb {x0 : FVec Ideal (Mat 4096 128) .f32} {x1 : FVec Ideal (Mat 2 4096) .f32} {x2 : FVec Ideal (Mat 4096 2) .f32}
    {M : ℕ → ℕ → ℝ} {a b c d : ℕ → ℝ} (h0 : Reads x0 M) (h1 : Reads x1 (pick a b)) (h2 : Reads x2 (fun p t => pick c d t p)) :
    Reads (out1_3 (F := Ideal) x0 x1 x2) (first M a b c d) ∧ Reads (out1_4 (F := Ideal) x0 x1 x2) (first M b a c d) := by
  rw [out1a_eq, out1b_eq]
  exact ⟨(h2.col2 0 (by decide)).mix (k := 7) le_rfl (by decide) (h2.col2 1 (by decide)) (h0.scaled h1 0 (by decide)) (h0.scaled h1 1 (by decide)),
    (h2.col2 0 (by decide)).mix (k := 7) le_rfl (by decide) (h2.col2 1 (by decide)) (h0.scaled h1 1 (by decide)) (h0.scaled h1 0 (by decide))⟩

/-- A butterfly of the tile takes the network one layer further. -/
theorem reads_next {N w : ℕ} (hw : N * w = 4096) (hN : N % 2 = 0) (h2 : 2 ≤ N) {x : FVec Ideal (Mat 256 4096) .f32}
    {a b : FVec Ideal (Mat 1 4096) .f32} {X : ℕ → ℕ → ℝ} {l : ℕ} (hx : Reads x (fun i => net V (X i) l)) (ha : Reads a (fun _ => keep V l))
    (hb : Reads b (fun _ => carry V l)) (hl : w = stride l) : Reads (bfly N w hw hN h2 x a b) (fun i => net V (X i) (l + 1)) := by
  subst hl
  exact hx.bfly hw hN h2 ha hb

section

variable {x : FVec Ideal (Mat 256 4096) .f32} {af bf ab bb : FVec Ideal (Mat 4 4096) .f32} {amt bmt : FVec Ideal (Mat 4096 13) .f32}
  {ab4 : FVec Ideal (Mat 2 4096) .f32} {ab18 : FVec Ideal (Mat 4096 2) .f32} {X : ℕ → ℕ → ℝ}

/-- The tile kernel's block is the block of inputs through the twenty-three layers. -/
theorem reads_tile (hx : Reads x X) (haf : Reads af (fun r => keep V r)) (hbf : Reads bf (fun r => carry V r))
    (hab : Reads ab (fun r => keep V (19 + r))) (hbb : Reads bb (fun r => carry V (19 + r)))
    (ha : Reads amt (fun p t => keep V (5 + t) p)) (hb : Reads bmt (fun p t => carry V (5 + t) p))
    (h4 : Reads ab4 (pick (keep V 4) (carry V 4))) (h18 : Reads ab18 (fun p t => pick (keep V 18) (carry V 18) t p)) :
    Reads (out2_7 (F := Ideal) x af bf ab bb (out1_3 (F := Ideal) (out0_2 (F := Ideal) amt bmt) ab4 ab18)
      (out1_4 (F := Ideal) (out0_2 (F := Ideal) amt bmt) ab4 ab18)) (fun i => net V (X i) 23) := by
  obtain ⟨M, hM, hS⟩ := composed ha hb
  rw [out2_eq, out0_eq]
  obtain ⟨r1, r2⟩ := reads_absorb hM h4 h18
  have s0 : Reads x (fun i => net V (X i) 0) := hx
  have s1 := reads_next (N := 2) (w := 2048) rfl rfl (by decide) s0 (haf.row4 0 (by decide)) (hbf.row4 0 (by decide)) rfl
  have s2 := reads_next (N := 4) (w := 1024) rfl rfl (by decide) s1 (haf.row4 1 (by decide)) (hbf.row4 1 (by decide)) rfl
  have s3 := reads_next (N := 8) (w := 512) rfl rfl (by decide) s2 (haf.row4 2 (by decide)) (hbf.row4 2 (by decide)) rfl
  have s4 := reads_next (N := 16) (w := 256) rfl rfl (by decide) s3 (haf.row4 3 (by decide)) (hbf.row4 3 (by decide)) rfl
  have p : Reads (prods _ _ _) (fun i => net V (X i) 19) := (s4.prods r1 r2).congr fun i _ j _ => by
    show _ = layer 128 (keep V 18) (carry V 18) (net V (X i) (5 + 13)) j
    rw [net_mid]
    exact (absorbed (fun X => mid V X 13) hS (keep V 4) (carry V 4) (keep V 18) (carry V 18) (net V (X i) 4) j).symm
  have s20 := reads_next (N := 16) (w := 256) rfl rfl (by decide) p (hab.row4 0 (by decide)) (hbb.row4 0 (by decide)) rfl
  have s21 := reads_next (N := 8) (w := 512) rfl rfl (by decide) s20 (hab.row4 1 (by decide)) (hbb.row4 1 (by decide)) rfl
  have s22 := reads_next (N := 4) (w := 1024) rfl rfl (by decide) s21 (hab.row4 2 (by decide)) (hbb.row4 2 (by decide)) rfl
  exact reads_next (N := 2) (w := 2048) rfl rfl (by decide) s22 (hab.row4 3 (by decide)) (hbb.row4 3 (by decide)) rfl

end

end Cert.Net
-- ==== Proof.KernelRun.lean ====
/- What the three pipelined kernels leave in their arrays, and the run of the whole program: the result array ends at
   the contents the last boundary names, and every argument ends unchanged. -/
module

public import proofs.«01_k».proof.Proof.KernelValue
public import proofs.«01_k».proof.Proof.Gen.KernelIdeal.Frame
public import Idealize.ShloMosaic.Lib.Pipeline.ValueKit
@[expose] public section

set_option maxRecDepth 16384

noncomputable section

namespace Cert.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Cert.KernelIdeal Cert.KernelIdeal.Gen

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- The compose kernel sees its coefficient arrays whole. -/
theorem compose_in0 (c : Dev nD) (t : Fin cfg0.N) : iblk0 V c 0 t = V c main_v14 := by
  funext y
  blk_simp [iblk0]
  have e : ∀ t : Fin grid0.N, win0_0.index t = ![0, 0] := by decide +kernel
  congr 1
  blk_ext [e]

/-- The second input block of the composing kernel is its whole array. -/
theorem compose_in1 (c : Dev nD) (t : Fin cfg0.N) : iblk0 V c 1 t = V c main_v15 := by
  funext y
  blk_simp [iblk0]
  have e : ∀ t : Fin grid0.N, win0_1.index t = ![0, 0] := by decide +kernel
  congr 1
  blk_ext [e]

/-- The compose kernel's result array. -/
theorem compose_out (c : Dev nD) : (dat0 V c).arrAt 2 cfg0.N = out0_2 (V c main_v14) (V c main_v15) := by
  refine (dat0 V c).arrAt_eq_of_covers 2 _ (by decide +kernel) fun t hf y => ?_
  blk_simp
  rw [after0_2, compose_in0, compose_in1]
  have e : ∀ t : Fin grid0.N, win0_2.index t = ![0, 0] := by decide +kernel
  congr 1
  blk_ext [e]

/-- The absorb kernel sees its three arrays whole. -/
theorem absorb_in0 (c : Dev nD) (t : Fin cfg1.N) : iblk1 V c 0 t = V c main_v34 := by
  funext y
  blk_simp [iblk1]
  have e : ∀ t : Fin grid1.N, win1_0.index t = ![0, 0] := by decide +kernel
  congr 1
  blk_ext [e]

/-- The second input block of the absorbing kernel is its whole array. -/
theorem absorb_in1 (c : Dev nD) (t : Fin cfg1.N) : iblk1 V c 1 t = V c main_v22 := by
  funext y
  blk_simp [iblk1]
  have e : ∀ t : Fin grid1.N, win1_1.index t = ![0, 0] := by decide +kernel
  congr 1
  blk_ext [e]

/-- So is the third. -/
theorem absorb_in2 (c : Dev nD) (t : Fin cfg1.N) : iblk1 V c 2 t = V c main_v29 := by
  funext y
  blk_simp [iblk1]
  have e : ∀ t : Fin grid1.N, win1_2.index t = ![0, 0] := by decide +kernel
  congr 1
  blk_ext [e]

/-- The absorb kernel's two result arrays. -/
theorem absorb_out3 (c : Dev nD) : (dat1 V c).arrAt 3 cfg1.N = out1_3 (V c main_v34) (V c main_v22) (V c main_v29) := by
  refine (dat1 V c).arrAt_eq_of_covers 3 _ (by decide +kernel) fun t hf y => ?_
  blk_simp
  rw [after1_3, absorb_in0, absorb_in1, absorb_in2]
  have e : ∀ t : Fin grid1.N, win1_3.index t = ![0, 0] := by decide +kernel
  congr 1
  blk_ext [e]

/-- The second result array of the absorbing kernel. -/
theorem absorb_out4 (c : Dev nD) : (dat1 V c).arrAt 4 cfg1.N = out1_4 (V c main_v34) (V c main_v22) (V c main_v29) := by
  refine (dat1 V c).arrAt_eq_of_covers 4 _ (by decide +kernel) fun t hf y => ?_
  blk_simp
  rw [after1_4, absorb_in0, absorb_in1, absorb_in2]
  have e : ∀ t : Fin grid1.N, win1_4.index t = ![0, 0] := by decide +kernel
  congr 1
  blk_ext [e]

/-- The tile kernel sees its coefficient arrays whole at every tile. -/
theorem tile_in1 (c : Dev nD) (t : Fin cfg2.N) : iblk2 V c 1 t = V c main_v30 := by
  funext y
  blk_simp [iblk2]
  have e : ∀ t : Fin grid2.N, win2_1.index t = ![0, 0] := by decide +kernel
  congr 1
  blk_ext [e]

/-- The carried coefficients of the first layers come whole to every tile. -/
theorem tile_in2 (c : Dev nD) (t : Fin cfg2.N) : iblk2 V c 2 t = V c main_v31 := by
  funext y
  blk_simp [iblk2]
  have e : ∀ t : Fin grid2.N, win2_2.index t = ![0, 0] := by decide +kernel
  congr 1
  blk_ext [e]

/-- So do the kept ones of the last layers, -/
theorem tile_in3 (c : Dev nD) (t : Fin cfg2.N) : iblk2 V c 3 t = V c main_v32 := by
  funext y
  blk_simp [iblk2]
  have e : ∀ t : Fin grid2.N, win2_3.index t = ![0, 0] := by decide +kernel
  congr 1
  blk_ext [e]

/-- … the carried ones of the last layers, -/
theorem tile_in4 (c : Dev nD) (t : Fin cfg2.N) : iblk2 V c 4 t = V c main_v33 := by
  funext y
  blk_simp [iblk2]
  have e : ∀ t : Fin grid2.N, win2_4.index t = ![0, 0] := by decide +kernel
  congr 1
  blk_ext [e]

/-- … the first matrix, -/
theorem tile_in5 (c : Dev nD) (t : Fin cfg2.N) : iblk2 V c 5 t = V c main_v35_0 := by
  funext y
  blk_simp [iblk2]
  have e : ∀ t : Fin grid2.N, win2_5.index t = ![0, 0] := by decide +kernel
  congr 1
  blk_ext [e]

/-- … and the second. -/
theorem tile_in6 (c : Dev nD) (t : Fin cfg2.N) : iblk2 V c 6 t = V c main_v35_1 := by
  funext y
  blk_simp [iblk2]
  have e : ∀ t : Fin grid2.N, win2_6.index t = ![0, 0] := by decide +kernel
  congr 1
  blk_ext [e]

end Blocks

/-- A tile's block of inputs is 256 consecutive rows. -/
theorem tile_in0 (V : (c : Dev nD) → (b : Ref sig .tc) → Buf (Elt Ideal) ((c : Thread nD τ).loc b)) (c : Dev nD) (t : Fin cfg2.N)
    {X : ℕ → ℕ → ℝ} (h : Reads (m := 4096) (n := 4096) (V c main_arg0) X) :
    Reads (m := 256) (n := 4096) (iblk2 V c 0 t) (fun i => X (t.val * 256 + i)) := by
  intro i j
  have e : ∀ t : Fin grid2.N, win2_0.index t = ![t.val, 0] := by decide +kernel
  have ht : t.val < 16 := lt_of_lt_of_eq t.isLt N_2
  refine Eq.trans ?_ (h ⟨t.val * 256 + i, by omega⟩ j)
  blk_simp [iblk2]
  congr 1
  blk_ext [e]

/-- The tile kernel's result array: each row through the layers, whatever the coefficient arrays hold, as long as a
    block of rows goes through them. -/
theorem tile_out (V : (c : Dev nD) → (b : Ref sig .tc) → Buf (Elt Ideal) ((c : Thread nD τ).loc b)) (c : Dev nD)
    {X : ℕ → ℕ → ℝ} {Y : (ℕ → ℝ) → ℕ → ℝ} (h : Reads (m := 4096) (n := 4096) (V c main_arg0) X)
    (hY : ∀ (x : FVec Ideal (Mat 256 4096) .f32) (Z : ℕ → ℕ → ℝ), Reads x Z →
      Reads (m := 256) (n := 4096) (out2_7 (F := Ideal) x (V c main_v30) (V c main_v31) (V c main_v32) (V c main_v33) (V c main_v35_0) (V c main_v35_1))
        (fun i => Y (Z i))) :
    Reads (m := 4096) (n := 4096) ((dat2 V c).arrAt 7 cfg2.N) (fun i => Y (X i)) := by
  have e : ∀ t : Fin grid2.N, win2_7.index t = ![t.val, 0] := by decide +kernel
  intro i j
  refine (dat2 V c).arrAt_forall_of_covers 7 (fun k v => v = ((Y (X (k (0 : Fin 2)).val) (k (1 : Fin 2)).val : ℝ) : EReal))
    (by decide +kernel) (fun t hf y => ?_) (ValueIdx.ix2 i j)
  blk_simp
  rw [after2_7, tile_in1, tile_in2, tile_in3, tile_in4, tile_in5, tile_in6]
  have key := hY _ _ (tile_in0 V c t h) (y (0 : Fin 2)) (y (1 : Fin 2))
  rw [e]
  refine (congrArg (out2_7 (F := Ideal) (iblk2 V c 0 t) _ _ _ _ _ _) (ValueIdx.eq_ix2 (n0 := 256) (n1 := 4096) y)).trans (key.trans ?_)
  show ((Y (X (t.val * 256 + (y (0 : Fin 2)).val)) (y (1 : Fin 2)).val : ℝ) : EReal)
    = ((Y (X (t.val * 256 + (y (0 : Fin 2)).val)) (0 * 4096 + (y (1 : Fin 2)).val) : ℝ) : EReal)
  rw [Nat.zero_mul, Nat.zero_add]

section Run

variable (m : (ℓ : Loc nD τ sig) → Buf (Elt F) ℓ) (ρ : Dev nD → PrngReg)

set_option backward.isDefEq.respectTransparency.types false in
/-- The whole program from any memory with zero counters: the result array ends at the last boundary's contents, the
    arguments as they were, the counters at zero. -/
theorem kernel_run : θ_run defs (onTc (τ := τ) (main (F := F))) ⟨m, fun _ => 0, ρ⟩ (fun r => (∀ c : Dev nD,
      r.2.mem ((c.tc : Thread nD τ).loc main_v36) = W10 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨(fun c =>
      ⟨h c _ (mem_uc main_v36 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c)⟩), funext fun g => hz g (.inr (no_unscoped g.2))⟩)

end Run

end Cert.Net
-- ==== Proof.HostPrefix.lean ====
/- The arrays the host lays out for the kernels: from the values, the entries each position keeps and the entries it
   carries, gathered by literal tables of offsets, in the arrangement each kernel takes. -/
module

public import proofs.«01_k».proof.Proof.KernelRun
public import Idealize.ShloMosaic.Lib.DynamicIndex
public import Mathlib.Tactic.Ring
@[expose] public section

set_option maxRecDepth 16384

noncomputable section

namespace Cert.Net

open Idealize.ShloMosaic hiding ix1 ix2 ix3 eq_ix2
open Idealize.ShloMosaic.ValueIdx (ix1 ix2 ix3 eq_ix2)
open Idealize.ShloMosaic.TcCoe Idealize.SL.Sem Cert.KernelIdeal Cert.KernelIdeal.Gen

section Gathers

variable {α : Type}

/-- The gather along the last axis: entry (t, m, q) is the operand's (t, m, j), j the index at (t, q). -/
theorem gather_last (x : S13x32x256.Idx → α) (idx : IVec S13x128x1 32) (t : Fin 13) (m : Fin 32) (q : Fin 128) (j : Fin 256)
    (hj : (idx (ix3 t q 0)).toInt.toNat = j.val) :
    Host.gather gather_S13x32x256_S13x128x1_S13x32x128_1_2_0_0_2_2_1321 x idx (ix3 t m q) = x (ix3 t m j) := by
  unfold Host.gather
  congr 1
  funext a
  refine Fin.ext ?_
  show gather_S13x32x256_S13x128x1_S13x32x128_1_2_0_0_2_2_1321.start (ix3 t m q) idx a
    + gather_S13x32x256_S13x128x1_S13x32x128_1_2_0_0_2_2_1321.batchCoord (ix3 t m q) a
    + gather_S13x32x256_S13x128x1_S13x32x128_1_2_0_0_2_2_1321.offCoord (ix3 t m q) a = _
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S13x32x256_S13x128x1_S13x32x128_1_2_0_0_2_2_1321.operandBatchingDims from List.mem_singleton.mpr rfl)]
    rfl
  · rw [GatherDims.batchCoord_eq_zero _ _ _ (by decide)]
    unfold GatherDims.start GatherDims.offCoord
    rw [dif_neg (by decide), dif_pos (by decide)]
    simp only [Nat.zero_add, Nat.add_zero]
    rfl
  · rw [GatherDims.batchCoord_eq_zero _ _ _ (by decide), GatherDims.offCoord_eq_zero _ _ _ (by decide)]
    simp only [Nat.add_zero]
    unfold GatherDims.start
    rw [dif_pos (by decide)]
    have hsi : ∀ k, gather_S13x32x256_S13x128x1_S13x32x128_1_2_0_0_2_2_1321.siIdx (ix3 t m q) k = ix3 t q 0 := by
      intro k
      funext b; refine Fin.ext ?_
      match b with
      | ⟨0, _⟩ => rfl
      | ⟨1, _⟩ => rfl
      | ⟨2, _⟩ => exact Nat.lt_one_iff.mp k.isLt
    rw [hsi, hj]
    exact Nat.min_eq_left (by show j.val ≤ 256 - 1; omega)

/-- The gather along the middle axis: entry (r, m, q) is the operand's (r, j, q), j the index at (r, m). -/
theorem gather_middle (x : S10x64x128.Idx → α) (idx : IVec S10x32x1 32) (r : Fin 10) (m : Fin 32) (q : Fin 128) (j : Fin 64)
    (hj : (idx (ix3 r m 0)).toInt.toNat = j.val) :
    Host.gather gather_S10x64x128_S10x32x1_S10x32x128_2_1_0_0_1_2_11128 x idx (ix3 r m q) = x (ix3 r j q) := by
  unfold Host.gather
  congr 1
  funext a
  refine Fin.ext ?_
  show gather_S10x64x128_S10x32x1_S10x32x128_2_1_0_0_1_2_11128.start (ix3 r m q) idx a
    + gather_S10x64x128_S10x32x1_S10x32x128_2_1_0_0_1_2_11128.batchCoord (ix3 r m q) a
    + gather_S10x64x128_S10x32x1_S10x32x128_2_1_0_0_1_2_11128.offCoord (ix3 r m q) a = _
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S10x64x128_S10x32x1_S10x32x128_2_1_0_0_1_2_11128.operandBatchingDims from List.mem_singleton.mpr rfl)]
    rfl
  · rw [GatherDims.batchCoord_eq_zero _ _ _ (by decide), GatherDims.offCoord_eq_zero _ _ _ (by decide)]
    simp only [Nat.add_zero]
    unfold GatherDims.start
    rw [dif_pos (by decide)]
    have hsi : ∀ k, gather_S10x64x128_S10x32x1_S10x32x128_2_1_0_0_1_2_11128.siIdx (ix3 r m q) k = ix3 r m 0 := by
      intro k
      funext b; refine Fin.ext ?_
      match b with
      | ⟨0, _⟩ => rfl
      | ⟨1, _⟩ => rfl
      | ⟨2, _⟩ => exact Nat.lt_one_iff.mp k.isLt
    rw [hsi, hj]
    exact Nat.min_eq_left (by show j.val ≤ 64 - 1; omega)
  · rw [GatherDims.batchCoord_eq_zero _ _ _ (by decide)]
    unfold GatherDims.start GatherDims.offCoord
    rw [dif_neg (by decide), dif_pos (by decide)]
    simp only [Nat.zero_add, Nat.add_zero]
    rfl

end Gathers

section Offsets

/-- What the host makes of an offset before it gathers: a negative one counts from the end. -/
theorem offset_kept {s : Shape} (c z k : IVec s 32) (hz : z = constantI s 32 0#32) (i : s.Idx) (n : ℕ) (hn : n < 2 ^ 31) (h : (c i).toNat = n) :
    (select (cmpi .slt c z) (addi c k) c i).toInt.toNat = n := by
  have e : (c i).toInt = n := by rw [BitVec.toInt_eq_toNat_of_lt (by omega), h]
  subst hz
  rw [select_slt_zero_of_nonneg c _ _ i (by omega), e]
  rfl

/-- The literal offsets of the middle layers: where a position's kept value lies among its 256 neighbours … -/
theorem lit0_place : ∀ (t : Fin 13) (q : Fin 128),
    (lit0 ⟨t.val * 128 + q.val, by omega⟩).toNat = place (stride (5 + t.val)) q.val (q.val / stride (5 + t.val) % 2) := by
  decide +kernel

/-- … and where its carried value lies. -/
theorem lit1_place : ∀ (t : Fin 13) (q : Fin 128),
    (lit1 ⟨t.val * 128 + q.val, by omega⟩).toNat = place (stride (5 + t.val)) q.val (1 - q.val / stride (5 + t.val) % 2) := by
  decide +kernel

/-- The layer of a row of the outer coefficient arrays: the first five and the last five. -/
def outer (r : ℕ) : ℕ := if r < 5 then r else r + 13

/-- The literal offsets of the outer layers, in blocks of 128. -/
theorem lit2_place : ∀ (r : Fin 10) (m : Fin 32),
    (lit2 ⟨r.val * 32 + m.val, by omega⟩).toNat
      = place (stride (outer r.val) / 128) m.val (m.val / (stride (outer r.val) / 128) % 2) := by
  decide +kernel

/-- The row table of the carried coefficients of the outer layers. -/
theorem lit3_place : ∀ (r : Fin 10) (m : Fin 32),
    (lit3 ⟨r.val * 32 + m.val, by omega⟩).toNat
      = place (stride (outer r.val) / 128) m.val (1 - m.val / (stride (outer r.val) / 128) % 2) := by
  decide +kernel

/-- A position inside its block of 2^k whole pairs: the block moves by itself. -/
theorem place_block {s k b q h : ℕ} (hs : 0 < s) (hq : q < k * (2 * s)) :
    place s (k * (2 * s) * b + q) h = 2 * (k * (2 * s)) * b + place s q h := by
  unfold place
  have e1 : (k * (2 * s) * b + q) / (2 * s) = k * b + q / (2 * s) := by
    rw [show k * (2 * s) * b = (2 * s) * (k * b) by ring, Nat.mul_add_div (by omega)]
  have e2 : (k * (2 * s) * b + q) % (2 * s) = q % (2 * s) := by
    rw [show k * (2 * s) * b = (2 * s) * (k * b) by ring, Nat.mul_add_mod]
  rw [e1, e2]
  ring

/-- The bit of a position does not see whole blocks. -/
theorem half_block {s k b q : ℕ} (hs : 0 < s) : (k * (2 * s) * b + q) / s % 2 = q / s % 2 := by
  rw [show k * (2 * s) * b = s * (2 * (k * b)) by ring, Nat.mul_add_div hs, Nat.mul_add_mod]

/-- A place inside a block stays inside the block of twice the width. -/
theorem place_lt {s k q h : ℕ} (hs : 0 < s) (hq : q < k * (2 * s)) (hh : h ≤ 1) : place s q h < 2 * (k * (2 * s)) := by
  unfold place
  have hd : q / (2 * s) + 1 ≤ k := Nat.div_lt_of_lt_mul (by rw [Nat.mul_comm]; exact hq)
  have h1 := Nat.mul_le_mul_right (4 * s) hd
  have h2 := Nat.mul_le_mul_right (2 * s) hh
  have h3 := Nat.mod_lt q (show 0 < 2 * s by omega)
  rw [Nat.add_mul, Nat.one_mul] at h1
  rw [show 2 * (k * (2 * s)) = k * (4 * s) by ring]
  omega

/-- A stride of whole blocks of w: the place inside the block stays. -/
theorem place_scaled {s w m q h : ℕ} (hq : q < w) (hs : 0 < s) : place (s * w) (w * m + q) h = w * place s m h + q := by
  unfold place
  have e1 : (w * m + q) / (2 * (s * w)) = m / (2 * s) := by
    rw [show 2 * (s * w) = w * (2 * s) by ring, ← Nat.div_div_eq_div_mul, Nat.mul_add_div (by omega), Nat.div_eq_of_lt hq, Nat.add_zero]
  have e2 : (w * m + q) % (2 * (s * w)) = w * (m % (2 * s)) + q := by
    rw [show 2 * (s * w) = w * (2 * s) by ring, Nat.mod_mul, Nat.mul_add_mod, Nat.mod_eq_of_lt hq, Nat.mul_add_div (by omega),
      Nat.div_eq_of_lt hq, Nat.add_zero]
    ring
  rw [e1, e2]
  ring

/-- The bit of a position at a scaled distance is the bit of its block number. -/
theorem half_scaled {s w m q : ℕ} (hq : q < w) : (w * m + q) / (s * w) % 2 = m / s % 2 := by
  rw [Nat.mul_comm s w, ← Nat.div_div_eq_div_mul, Nat.mul_add_div (by omega), Nat.div_eq_of_lt hq, Nat.add_zero]

end Offsets

section Layout

/-- Row t of the middle values at 256 m + j. -/
def blocks13 (v : FVec Ideal S23x8192 .f32) : FVec Ideal S13x32x256 .f32 :=
  shapeCast S13x32x256 (extractStridedSlice S13x8192 ![5, 0] v slices_S23x8192_S13x8192_5_0) shapeCasts_S13x8192_S13x32x256

/-- An entry of the blocks of the middle layers. -/
theorem blocks13_apply {V : ℕ → ℕ → ℝ} {v : FVec Ideal S23x8192 .f32} (h : Reads (m := 23) (n := 8192) v V) (t : Fin 13) (m : Fin 32)
    (j : Fin 256) : blocks13 v (ix3 t m j) = ((V (5 + t) (256 * m + j) : ℝ) : EReal) := by
  refine (shapeCast_apply _ _ _ (ix2 t ⟨256 * m + j, by omega⟩) ?_).trans ?_
  · rw [Shape.rowMajor_val_two, Shape.rowMajor_val_three]
    show t.val * 8192 + (256 * m.val + j.val) = (t.val * 32 + m.val) * 256 + j.val
    omega
  refine (extractStridedSlice_apply _ _ _ _ (ix2 ⟨5 + t, by omega⟩ ⟨256 * m + j, by omega⟩) fun a => ?_).trans (h _ _)
  match a with
  | ⟨0, _⟩ => rfl
  | ⟨1, _⟩ => show 256 * m.val + j.val = 0 + (256 * m.val + j.val); omega

/-- The middle coefficients gathered by a table of offsets, one row of 4096 per layer. -/
def gathered13 (x : FVec Ideal S13x32x256 .f32) (c : IVec S13x1x128 32) : FVec Ideal S13x32x128 .f32 :=
  Host.gather gather_S13x32x256_S13x128x1_S13x32x128_1_2_0_0_2_2_1321 x
    (shapeCast S13x128x1 (select (cmpi .slt c (broadcastInDim S13x1x128 ![] bcast_S_S13x1x128 (constantI S_ 32 0#32)))
      (addi c (broadcastInDim S13x1x128 ![] bcast_S_S13x1x128 (constantI S_ 32 256#32))) c) shapeCasts_S13x1x128_S13x128x1)

/-- An entry gathered from the blocks of the middle layers. -/
theorem gathered13_apply (x : FVec Ideal S13x32x256 .f32) (c : IVec S13x1x128 32) (t : Fin 13) (m : Fin 32) (q : Fin 128) (j : Fin 256)
    (hj : (c (ix3 t 0 q)).toNat = j.val) : gathered13 x c (ix3 t m q) = x (ix3 t m j) := by
  refine gather_last x _ t m q j ?_
  rw [shapeCast_apply _ _ _ (ix3 t 0 q) (by
    rw [Shape.rowMajor_val_three, Shape.rowMajor_val_three]
    show (t.val * 1 + 0) * 128 + q.val = (t.val * 128 + q.val) * 1 + 0
    omega)]
  exact offset_kept c _ _ rfl _ j (by omega) hj

/-- Laid out for the compose kernel: a column of 4096 per layer. -/
def columns13 (x : FVec Ideal S13x32x128 .f32) : FVec Ideal S4096x13 .f32 :=
  transpose S4096x13 [1, 0] (shapeCast S13x4096 x shapeCasts_S13x32x128_S13x4096) transposes_S13x4096_S4096x13_1_0

/-- An entry of the columns of the middle layers. -/
theorem columns13_apply (x : FVec Ideal S13x32x128 .f32) (p : Fin 4096) (t : Fin 13) :
    columns13 x (ix2 p t) = x (ix3 t ⟨p.val / 128, by omega⟩ ⟨p.val % 128, by omega⟩) := by
  refine (transpose_apply _ _ _ _ (ix2 t p) fun b => ?_).trans (shapeCast_apply _ _ _ _ ?_)
  · match b with
    | ⟨0, _⟩ => rfl
    | ⟨1, _⟩ => rfl
  · rw [Shape.rowMajor_val_two, Shape.rowMajor_val_three]
    show (t.val * 32 + p.val / 128) * 128 + p.val % 128 = t.val * 4096 + p.val
    omega

/-- The middle layers' coefficients from a table that places half `h` of every pair. -/
theorem reads_columns13 {V : ℕ → ℕ → ℝ} {v : FVec Ideal S23x8192 .f32} (hv : Reads (m := 23) (n := 8192) v V)
    (tab : Fin 1664 → BitVec 32) (h : ℕ → ℕ) (hh : ∀ b, h b ≤ 1) (hb : ∀ (t : Fin 13) (q : Fin 128),
      (tab ⟨t.val * 128 + q.val, by omega⟩).toNat = place (stride (5 + t.val)) q.val (h (q.val / stride (5 + t.val) % 2))) :
    Reads (m := 4096) (n := 13) (columns13 (gathered13 (blocks13 v) fun i => tab (S13x1x128.rowMajor i)))
      (fun p t => V (5 + t) (place (stride (5 + t)) p (h (p / stride (5 + t) % 2)))) := by
  intro p t
  rw [columns13_apply]
  have hk : ∃ k, 0 < stride (5 + t.val) ∧ 128 = k * (2 * stride (5 + t.val)) := by
    have : ∀ t : Fin 13, ∃ k : Fin 129, 0 < stride (5 + t.val) ∧ 128 = k.val * (2 * stride (5 + t.val)) := by decide +kernel
    obtain ⟨k, hk⟩ := this t
    exact ⟨k, hk⟩
  obtain ⟨k, hs, hk⟩ := hk
  have hp : p.val = k * (2 * stride (5 + t.val)) * (p.val / 128) + p.val % 128 := by rw [← hk]; omega
  have hlt := place_lt hs (show p.val % 128 < k * (2 * stride (5 + t.val)) by rw [← hk]; omega) (hh (p.val % 128 / stride (5 + t.val) % 2))
  rw [← hk] at hlt
  refine (gathered13_apply _ _ t _ _ ⟨_, hlt⟩ ?_).trans ((blocks13_apply hv _ _ _).trans ?_)
  · refine (congrArg BitVec.toNat (congrArg tab (Fin.ext ?_))).trans (hb t ⟨p.val % 128, by omega⟩)
    refine (Shape.rowMajor_val_three (d := ![13, 1, 128]) _).trans ?_
    show (t.val * 1 + 0) * 128 + p.val % 128 = t.val * 128 + p.val % 128
    omega
  · show ((V (5 + t.val) (256 * (p.val / 128) + place (stride (5 + t.val)) (p.val % 128) (h (p.val % 128 / stride (5 + t.val) % 2))) : ℝ) : EReal)
      = ((V (5 + t.val) (place (stride (5 + t.val)) p.val (h (p.val / stride (5 + t.val) % 2))) : ℝ) : EReal)
    have e : place (stride (5 + t.val)) p.val (h (p.val / stride (5 + t.val) % 2))
        = 256 * (p.val / 128) + place (stride (5 + t.val)) (p.val % 128) (h (p.val % 128 / stride (5 + t.val) % 2)) := by
      conv_lhs => rw [hp]
      rw [half_block hs, place_block hs (by rw [← hk]; omega), ← hk]
    rw [e]

/-- The outer layers' values, in blocks of 128. -/
def blocks10 (v : FVec Ideal S23x8192 .f32) : FVec Ideal S10x64x128 .f32 :=
  shapeCast S10x64x128 (concatenate S10x8192 0 [⟨S5x8192, extractStridedSlice S5x8192 ![0, 0] v slices_S23x8192_S5x8192_0_0⟩,
    ⟨S5x8192, extractStridedSlice S5x8192 ![18, 0] v slices_S23x8192_S5x8192_18_0⟩] concatenates_S5x8192_S5x8192_S10x8192_d0)
    shapeCasts_S10x8192_S10x64x128

/-- An entry of the blocks of the outer layers. -/
theorem blocks10_apply {V : ℕ → ℕ → ℝ} {v : FVec Ideal S23x8192 .f32} (h : Reads (m := 23) (n := 8192) v V) (r : Fin 10) (m : Fin 64)
    (q : Fin 128) : blocks10 v (ix3 r m q) = ((V (outer r) (128 * m + q) : ℝ) : EReal) := by
  refine (shapeCast_apply _ _ _ (ix2 r ⟨128 * m + q, by omega⟩) ?_).trans ?_
  · rw [Shape.rowMajor_val_two, Shape.rowMajor_val_three]
    show r.val * 8192 + (128 * m.val + q.val) = (r.val * 64 + m.val) * 128 + q.val
    omega
  by_cases hr : r.val < 5
  · refine (concatenate_pair_apply_left (t := S10x8192) 0 _ _ concatenates_S5x8192_S5x8192_S10x8192_d0 _ rfl
      (ix2 ⟨r, hr⟩ ⟨128 * m + q, by omega⟩) fun c => ?_).trans ?_
    · match c with
      | ⟨0, _⟩ => rfl
      | ⟨1, _⟩ => rfl
    refine (extractStridedSlice_apply _ _ _ _ (ix2 ⟨r, by omega⟩ ⟨128 * m + q, by omega⟩) fun a => ?_).trans ((h _ _).trans ?_)
    · match a with
      | ⟨0, _⟩ => show r.val = 0 + r.val; omega
      | ⟨1, _⟩ => show 128 * m.val + q.val = 0 + (128 * m.val + q.val); omega
    · unfold outer
      rw [if_pos hr]
  · refine (concatenate_pair_apply_right (t := S10x8192) 0 _ _ concatenates_S5x8192_S5x8192_S10x8192_d0 _ rfl rfl
      (ix2 ⟨r - 5, by omega⟩ ⟨128 * m + q, by omega⟩) (fun c hc => ?_) ?_).trans ?_
    · match c with
      | ⟨0, _⟩ => exact absurd rfl hc
      | ⟨1, _⟩ => rfl
    · show r.val - 5 + 5 = r.val
      omega
    refine (extractStridedSlice_apply _ _ _ _ (ix2 ⟨r + 13, by omega⟩ ⟨128 * m + q, by omega⟩) fun a => ?_).trans ((h _ _).trans ?_)
    · match a with
      | ⟨0, _⟩ => show r.val + 13 = 18 + (r.val - 5); omega
      | ⟨1, _⟩ => show 128 * m.val + q.val = 0 + (128 * m.val + q.val); omega
    · unfold outer
      rw [if_neg hr]

/-- The outer coefficients gathered by a table of block numbers. -/
def gathered10 (x : FVec Ideal S10x64x128 .f32) (c : IVec S10x32x1 32) : FVec Ideal S10x32x128 .f32 :=
  Host.gather gather_S10x64x128_S10x32x1_S10x32x128_2_1_0_0_1_2_11128 x
    (select (cmpi .slt c (broadcastInDim S10x32x1 ![] bcast_S_S10x32x1 (constantI S_ 32 0#32)))
      (addi c (broadcastInDim S10x32x1 ![] bcast_S_S10x32x1 (constantI S_ 32 64#32))) c)

/-- One row of 4096 per outer layer. -/
def rows10 (x : FVec Ideal S10x32x128 .f32) : FVec Ideal S10x4096 .f32 := shapeCast S10x4096 x shapeCasts_S10x32x128_S10x4096

/-- The outer layers' coefficients from a table that places half `h` of every pair. -/
theorem reads_rows10 {V : ℕ → ℕ → ℝ} {v : FVec Ideal S23x8192 .f32} (hv : Reads (m := 23) (n := 8192) v V)
    (tab : Fin 320 → BitVec 32) (h : ℕ → ℕ) (hh : ∀ b, h b ≤ 1) (hb : ∀ (r : Fin 10) (m : Fin 32),
      (tab ⟨r.val * 32 + m.val, by omega⟩).toNat
        = place (stride (outer r.val) / 128) m.val (h (m.val / (stride (outer r.val) / 128) % 2))) :
    Reads (m := 10) (n := 4096) (rows10 (gathered10 (blocks10 v) fun i => tab (S10x32x1.rowMajor i)))
      (fun r p => V (outer r) (place (stride (outer r)) p (h (p / stride (outer r) % 2)))) := by
  intro r p
  have hk : ∃ k, 0 < stride (outer r.val) / 128 ∧ 32 = k * (2 * (stride (outer r.val) / 128))
      ∧ stride (outer r.val) = stride (outer r.val) / 128 * 128 := by
    have : ∀ r : Fin 10, ∃ k : Fin 33, 0 < stride (outer r.val) / 128 ∧ 32 = k.val * (2 * (stride (outer r.val) / 128))
      ∧ stride (outer r.val) = stride (outer r.val) / 128 * 128 := by decide +kernel
    obtain ⟨k, hk⟩ := this r
    exact ⟨k, hk⟩
  obtain ⟨k, hs, hk, hw⟩ := hk
  have hp : p.val = 128 * (p.val / 128) + p.val % 128 := by omega
  have hlt := place_lt hs (show p.val / 128 < k * (2 * (stride (outer r.val) / 128)) by rw [← hk]; omega)
    (hh (p.val / 128 / (stride (outer r.val) / 128) % 2))
  rw [← hk] at hlt
  refine (shapeCast_apply _ _ _ (ix3 r ⟨p.val / 128, by omega⟩ ⟨p.val % 128, by omega⟩) ?_).trans ?_
  · rw [Shape.rowMajor_val_two, Shape.rowMajor_val_three]
    show (r.val * 32 + p.val / 128) * 128 + p.val % 128 = r.val * 4096 + p.val
    omega
  refine (gather_middle _ _ r _ _ ⟨_, hlt⟩ (offset_kept _ _ _ rfl _ _ (by show place _ _ _ < _; omega) ?_)).trans
    ((blocks10_apply hv _ _ _).trans ?_)
  · refine (congrArg BitVec.toNat (congrArg tab (Fin.ext ?_))).trans (hb r ⟨p.val / 128, by omega⟩)
    refine (Shape.rowMajor_val_three (d := ![10, 32, 1]) _).trans ?_
    show (r.val * 32 + p.val / 128) * 1 + 0 = r.val * 32 + p.val / 128
    omega
  · show ((V (outer r.val) (128 * place (stride (outer r.val) / 128) (p.val / 128) (h (p.val / 128 / (stride (outer r.val) / 128) % 2)) + p.val % 128) : ℝ) : EReal)
      = ((V (outer r.val) (place (stride (outer r.val)) p.val (h (p.val / stride (outer r.val) % 2))) : ℝ) : EReal)
    have e : place (stride (outer r.val)) p.val (h (p.val / stride (outer r.val) % 2))
        = 128 * place (stride (outer r.val) / 128) (p.val / 128) (h (p.val / 128 / (stride (outer r.val) / 128) % 2)) + p.val % 128 := by
      conv_lhs => rw [hp, hw]
      rw [half_scaled (by omega), place_scaled (by omega) hs]
    rw [e]

/-- Four rows from row o. -/
theorem reads_four {x : FVec Ideal S10x4096 .f32} {X : ℕ → ℕ → ℝ} (h : Reads (m := 10) (n := 4096) x X) (o : ℕ) (ho : o + 4 ≤ 10)
    (hs : S10x4096.Slices ![o, 0] S4x4096) :
    Reads (m := 4) (n := 4096) (extractStridedSlice S4x4096 ![o, 0] x hs) (fun r => X (o + r)) := fun i j =>
  (extractStridedSlice_apply _ _ _ _ (ix2 ⟨o + i, by omega⟩ j) fun a => match a with
    | ⟨0, _⟩ => rfl
    | ⟨1, _⟩ => (Nat.zero_add _).symm).trans (h _ _)

/-- Row o alone. -/
def oneRow (x : FVec Ideal S10x4096 .f32) (o : ℕ) (hs : S10x4096.Slices ![o, 0] S1x4096) : FVec Ideal S4096 .f32 :=
  shapeCast S4096 (extractStridedSlice S1x4096 ![o, 0] x hs) shapeCasts_S1x4096_S4096

/-- An entry of one row. -/
theorem oneRow_apply {x : FVec Ideal S10x4096 .f32} {X : ℕ → ℕ → ℝ} (h : Reads (m := 10) (n := 4096) x X) (o : ℕ) (ho : o < 10)
    (hs : S10x4096.Slices ![o, 0] S1x4096) (p : Fin 4096) : oneRow x o hs (ix1 p) = ((X o p : ℝ) : EReal) :=
  (shapeCast_apply _ _ _ (ix2 0 p) (by
    rw [Shape.rowMajor_val_one, Shape.rowMajor_val_two]
    show 0 * 4096 + p.val = p.val
    omega)).trans ((extractStridedSlice_apply _ _ _ _ (ix2 ⟨o, ho⟩ p) fun a => match a with
    | ⟨0, _⟩ => rfl
    | ⟨1, _⟩ => (Nat.zero_add _).symm).trans (h _ _))

/-- Two rows, one under the other. -/
theorem reads_rowsPair {a b : FVec Ideal S4096 .f32} {A B : ℕ → ℝ} (ha : ∀ p, a (ix1 p) = ((A p.val : ℝ) : EReal))
    (hb : ∀ p, b (ix1 p) = ((B p.val : ℝ) : EReal)) :
    Reads (m := 2) (n := 4096) (concatenate S2x4096 0 [⟨S1x4096, broadcastInDim S1x4096 ![1] bcast_S4096_S1x4096_1 a⟩,
      ⟨S1x4096, broadcastInDim S1x4096 ![1] bcast_S4096_S1x4096_1 b⟩] concatenates_S1x4096_S1x4096_S2x4096_d0) (pick A B) := by
  intro i j
  by_cases hi : i.val = 0
  · refine (concatenate_pair_apply_left (t := S2x4096) 0 _ _ concatenates_S1x4096_S1x4096_S2x4096_d0 _ rfl (ix2 0 j) fun c => ?_).trans ?_
    · match c with
      | ⟨0, _⟩ => exact hi.symm
      | ⟨1, _⟩ => rfl
    refine (broadcastInDim_apply _ _ _ _ (ix1 j) fun c => ?_).trans ((ha j).trans ?_)
    · match c with
      | ⟨0, _⟩ => rfl
    · unfold pick
      rw [if_pos hi]
  · refine (concatenate_pair_apply_right (t := S2x4096) 0 _ _ concatenates_S1x4096_S1x4096_S2x4096_d0 _ rfl rfl (ix2 0 j) (fun c hc => ?_) ?_).trans ?_
    · match c with
      | ⟨0, _⟩ => exact absurd rfl hc
      | ⟨1, _⟩ => rfl
    · show 0 + 1 = i.val
      omega
    refine (broadcastInDim_apply _ _ _ _ (ix1 j) fun c => ?_).trans ((hb j).trans ?_)
    · match c with
      | ⟨0, _⟩ => rfl
    · unfold pick
      rw [if_neg hi]

/-- Two columns, side by side. -/
theorem reads_columnsPair {a b : FVec Ideal S4096 .f32} {A B : ℕ → ℝ} (ha : ∀ p, a (ix1 p) = ((A p.val : ℝ) : EReal))
    (hb : ∀ p, b (ix1 p) = ((B p.val : ℝ) : EReal)) :
    Reads (m := 4096) (n := 2) (concatenate S4096x2 1 [⟨S4096x1, broadcastInDim S4096x1 ![0] bcast_S4096_S4096x1_0 a⟩,
      ⟨S4096x1, broadcastInDim S4096x1 ![0] bcast_S4096_S4096x1_0 b⟩] concatenates_S4096x1_S4096x1_S4096x2_d1) (fun p t => pick A B t p) := by
  intro j i
  by_cases hi : i.val = 0
  · refine (concatenate_pair_apply_left (t := S4096x2) 1 _ _ concatenates_S4096x1_S4096x1_S4096x2_d1 _ rfl (ix2 j 0) fun c => ?_).trans ?_
    · match c with
      | ⟨0, _⟩ => rfl
      | ⟨1, _⟩ => exact hi.symm
    refine (broadcastInDim_apply _ _ _ _ (ix1 j) fun c => ?_).trans ((ha j).trans ?_)
    · match c with
      | ⟨0, _⟩ => rfl
    · show _ = ((pick A B i.val j.val : ℝ) : EReal)
      unfold pick
      rw [if_pos hi]
  · refine (concatenate_pair_apply_right (t := S4096x2) 1 _ _ concatenates_S4096x1_S4096x1_S4096x2_d1 _ rfl rfl (ix2 j 0) (fun c hc => ?_) ?_).trans ?_
    · match c with
      | ⟨0, _⟩ => rfl
      | ⟨1, _⟩ => exact absurd rfl hc
    · show 0 + 1 = i.val
      omega
    refine (broadcastInDim_apply _ _ _ _ (ix1 j) fun c => ?_).trans ((hb j).trans ?_)
    · match c with
      | ⟨0, _⟩ => rfl
    · show _ = ((pick A B i.val j.val : ℝ) : EReal)
      unfold pick
      rw [if_neg hi]

end Layout

end Cert.Net
-- ==== Proof.Arrays.lean ====
/- The buffers at the kernels' entries, one stretch of host operations after another, and the kernel's result array. -/
module

public import proofs.«01_k».proof.Proof.HostPrefix
public import proofs.«01_k».proof.Proof.KernelRun
public import Idealize.ShloMosaic.Lib.StableHlo.Run
@[expose] public section

set_option maxRecDepth 16384

noncomputable section

namespace Cert.Net

open Idealize.ShloMosaic hiding ix1 ix2 ix3 eq_ix2
open Idealize.ShloMosaic.ValueIdx (ix1 ix2 ix3 eq_ix2)
open Idealize.ShloMosaic.TcCoe Idealize.ShloMosaic.StableHlo Idealize.SL.Sem Cert.KernelIdeal Cert.KernelIdeal.Gen

section Stretches

variable (V : Valuation τ sig (Elt Ideal))

/-- The first stretch cuts the middle layers out of the values argument, in blocks. -/
theorem s0_v1 : after hostOps0 V (Proc.devRef .tc main_v1) = blocks13 (V (Proc.devRef .tc main_arg1)) := by
  after_results
  rfl

/-- The position table of the kept coefficients of the middle layers is a constant. -/
theorem s0_c : after hostOps0 V (Proc.devRef .tc main_c) = fun i => lit0 (S13x1x128.rowMajor i) := by
  after_results
  rfl
/-- … that of the carried ones is a constant, -/
theorem s0_c0 : after hostOps0 V (Proc.devRef .tc main_c_0) = fun i => lit1 (S13x1x128.rowMajor i) := by
  after_results
  rfl
/-- … so is the row table of the kept coefficients of the outer layers, -/
theorem s0_c1 : after hostOps0 V (Proc.devRef .tc main_c_1) = fun i => lit2 (S10x32x1.rowMajor i) := by
  after_results
  rfl
/-- … and that of the carried ones. -/
theorem s0_c2 : after hostOps0 V (Proc.devRef .tc main_c_2) = fun i => lit3 (S10x32x1.rowMajor i) := by
  after_results
  rfl

/-- The second stretch gathers the kept coefficients of the middle layers. -/
theorem s1_v2 : after hostOps0_1 V (Proc.devRef .tc main_v2) = gathered13 (V (Proc.devRef .tc main_v1)) (V (Proc.devRef .tc main_c)) := by
  after_results
  rfl

/-- The third gathers the carried ones. -/
theorem s2_v3 : after hostOps0_2 V (Proc.devRef .tc main_v3) = gathered13 (V (Proc.devRef .tc main_v1)) (V (Proc.devRef .tc main_c_0)) := by
  after_results
  rfl

/-- The fourth cuts the outer layers out of the values argument, in blocks. -/
theorem s3_v7 : after hostOps0_3 V (Proc.devRef .tc main_v7) = blocks10 (V (Proc.devRef .tc main_arg1)) := by
  after_results
  rfl

/-- The fifth gathers the kept coefficients of the outer layers. -/
theorem s4_v8 : after hostOps0_4 V (Proc.devRef .tc main_v8) = gathered10 (V (Proc.devRef .tc main_v7)) (V (Proc.devRef .tc main_c_1)) := by
  after_results
  rfl

/-- The sixth gathers the carried ones. -/
theorem s5_v9 : after hostOps0_5 V (Proc.devRef .tc main_v9) = gathered10 (V (Proc.devRef .tc main_v7)) (V (Proc.devRef .tc main_c_2)) := by
  after_results
  rfl

/-- The last stretch lays the kept coefficients of the middle layers out in columns, -/
theorem s6_v14 : after hostOps0_6 V (Proc.devRef .tc main_v14) = columns13 (V (Proc.devRef .tc main_v2)) := by
  after_results
  rfl

/-- … and the carried ones. -/
theorem s6_v15 : after hostOps0_6 V (Proc.devRef .tc main_v15) = columns13 (V (Proc.devRef .tc main_v3)) := by
  after_results
  rfl

/-- The last stretch pairs the two rows of layer 4, -/
theorem s6_v22 : after hostOps0_6 V (Proc.devRef .tc main_v22) = concatenate S2x4096 0
    [⟨S1x4096, broadcastInDim S1x4096 ![1] bcast_S4096_S1x4096_1 (oneRow (rows10 (V (Proc.devRef .tc main_v8))) 4 slices_S10x4096_S1x4096_4_0)⟩,
     ⟨S1x4096, broadcastInDim S1x4096 ![1] bcast_S4096_S1x4096_1 (oneRow (rows10 (V (Proc.devRef .tc main_v9))) 4 slices_S10x4096_S1x4096_4_0)⟩]
    concatenates_S1x4096_S1x4096_S2x4096_d0 := by
  after_results
  rfl

/-- … and, as columns, the two of layer 18. -/
theorem s6_v29 : after hostOps0_6 V (Proc.devRef .tc main_v29) = concatenate S4096x2 1
    [⟨S4096x1, broadcastInDim S4096x1 ![0] bcast_S4096_S4096x1_0 (oneRow (rows10 (V (Proc.devRef .tc main_v8))) 5 slices_S10x4096_S1x4096_5_0)⟩,
     ⟨S4096x1, broadcastInDim S4096x1 ![0] bcast_S4096_S4096x1_0 (oneRow (rows10 (V (Proc.devRef .tc main_v9))) 5 slices_S10x4096_S1x4096_5_0)⟩]
    concatenates_S4096x1_S4096x1_S4096x2_d1 := by
  after_results
  rfl

/-- The first four rows of the kept coefficients go to the tile kernel, -/
theorem s6_v30 : after hostOps0_6 V (Proc.devRef .tc main_v30)
    = extractStridedSlice S4x4096 ![0, 0] (rows10 (V (Proc.devRef .tc main_v8))) slices_S10x4096_S4x4096_0_0 := by
  after_results
  rfl

/-- … the first four of the carried ones, -/
theorem s6_v31 : after hostOps0_6 V (Proc.devRef .tc main_v31)
    = extractStridedSlice S4x4096 ![0, 0] (rows10 (V (Proc.devRef .tc main_v9))) slices_S10x4096_S4x4096_0_0 := by
  after_results
  rfl

/-- … the last four of the kept ones, -/
theorem s6_v32 : after hostOps0_6 V (Proc.devRef .tc main_v32)
    = extractStridedSlice S4x4096 ![6, 0] (rows10 (V (Proc.devRef .tc main_v8))) slices_S10x4096_S4x4096_6_0 := by
  after_results
  rfl

/-- … and the last four of the carried ones. -/
theorem s6_v33 : after hostOps0_6 V (Proc.devRef .tc main_v33)
    = extractStridedSlice S4x4096 ![6, 0] (rows10 (V (Proc.devRef .tc main_v9))) slices_S10x4096_S4x4096_6_0 := by
  after_results
  rfl

end Stretches

section Boundaries

/-- A bit is at most one. -/
theorem half_keep (b : ℕ) : b % 2 ≤ 1 := by omega
/-- So is its complement. -/
theorem half_carry (b : ℕ) : 1 - b % 2 ≤ 1 := by omega
/-- The first five rows of the outer coefficients are the first five layers. -/
theorem outer_low {r : ℕ} (h : r < 5) : outer r = r := if_pos h
/-- The last five rows are the last five layers. -/
theorem outer_high (r : ℕ) : outer (5 + r) = 18 + r := by
  rw [outer, if_neg (by omega)]
  omega

variable (m : (ℓ : Loc nD τ sig) → Buf (Elt Ideal) ℓ) (ρ : Dev nD → PrngReg) (c : Dev nD)

/-- Gathered middle coefficients, from the values argument. -/
theorem w6_v2 : W6 m ρ c (Proc.devRef .tc main_v2)
    = gathered13 (blocks13 (m ((c : Thread nD τ).loc main_arg1))) (fun i => lit0 (S13x1x128.rowMajor i)) := by
  rw [W6_of m ρ c main_v2 (by decide), W5_of m ρ c main_v2 (by decide), W4_of m ρ c main_v2 (by decide), W3_of m ρ c main_v2 (by decide)]
  refine (s1_v2 _).trans ?_
  rw [show W1 m ρ c (Proc.devRef .tc main_v1) = _ from s0_v1 _, show W1 m ρ c (Proc.devRef .tc main_c) = _ from s0_c _]

/-- The carried ones likewise. -/
theorem w6_v3 : W6 m ρ c (Proc.devRef .tc main_v3)
    = gathered13 (blocks13 (m ((c : Thread nD τ).loc main_arg1))) (fun i => lit1 (S13x1x128.rowMajor i)) := by
  rw [W6_of m ρ c main_v3 (by decide), W5_of m ρ c main_v3 (by decide), W4_of m ρ c main_v3 (by decide)]
  refine (s2_v3 _).trans ?_
  rw [W2_of m ρ c main_v1 (by decide), W2_of m ρ c main_c_0 (by decide),
    show W1 m ρ c (Proc.devRef .tc main_v1) = _ from s0_v1 _, show W1 m ρ c (Proc.devRef .tc main_c_0) = _ from s0_c0 _]

/-- The blocks of the outer layers, from the values argument. -/
theorem w4_v7 : W4 m ρ c (Proc.devRef .tc main_v7) = blocks10 (m ((c : Thread nD τ).loc main_arg1)) := by
  refine (s3_v7 _).trans ?_
  rw [W3_args m ρ c main_arg1 (by decide)]

/-- Gathered outer coefficients, from the values argument. -/
theorem w6_v8 : W6 m ρ c (Proc.devRef .tc main_v8)
    = gathered10 (blocks10 (m ((c : Thread nD τ).loc main_arg1))) (fun i => lit2 (S10x32x1.rowMajor i)) := by
  rw [W6_of m ρ c main_v8 (by decide)]
  refine (s4_v8 _).trans ?_
  rw [w4_v7, W4_of m ρ c main_c_1 (by decide), W3_of m ρ c main_c_1 (by decide), W2_of m ρ c main_c_1 (by decide),
    show W1 m ρ c (Proc.devRef .tc main_c_1) = _ from s0_c1 _]

/-- The carried ones likewise. -/
theorem w6_v9 : W6 m ρ c (Proc.devRef .tc main_v9)
    = gathered10 (blocks10 (m ((c : Thread nD τ).loc main_arg1))) (fun i => lit3 (S10x32x1.rowMajor i)) := by
  refine (s5_v9 _).trans ?_
  rw [W5_of m ρ c main_v7 (by decide), w4_v7, W5_of m ρ c main_c_2 (by decide), W4_of m ρ c main_c_2 (by decide),
    W3_of m ρ c main_c_2 (by decide), W2_of m ρ c main_c_2 (by decide), show W1 m ρ c (Proc.devRef .tc main_c_2) = _ from s0_c2 _]

/-- What the kernel leaves in its result: every row of the input through the twenty-three layers. -/
theorem reads_result {X V : ℕ → ℕ → ℝ} (hx : Reads (m := 4096) (n := 4096) (m ((c : Thread nD τ).loc main_arg0)) X)
    (hv : Reads (m := 23) (n := 8192) (m ((c : Thread nD τ).loc main_arg1)) V) :
    Reads (m := 4096) (n := 4096) (W10 m ρ c (Proc.devRef .tc main_v36)) (fun i => net V (X i) 23) := by
  have ra := reads_rows10 hv lit2 (fun b => b % 2) half_keep (fun r q => by simpa using lit2_place r q)
  have rb := reads_rows10 hv lit3 (fun b => 1 - b % 2) half_carry (fun r q => by simpa using lit3_place r q)
  have ma := reads_columns13 hv lit0 (fun b => b % 2) half_keep (fun t q => by simpa using lit0_place t q)
  have mb := reads_columns13 hv lit1 (fun b => 1 - b % 2) half_carry (fun t q => by simpa using lit1_place t q)
  rw [← w6_v8 m ρ c] at ra
  rw [← w6_v9 m ρ c] at rb
  rw [← w6_v2 m ρ c] at ma
  rw [← w6_v3 m ρ c] at mb
  have e34 : W8 m ρ c (Proc.devRef .tc main_v34) = out0_2 (F := Ideal) (columns13 (W6 m ρ c (Proc.devRef .tc main_v2)))
      (columns13 (W6 m ρ c (Proc.devRef .tc main_v3))) := by
    refine (W8_arr m ρ c 2).trans ((compose_out (V7 m ρ) c).trans ?_)
    show out0_2 (W7 m ρ c (Proc.devRef .tc main_v14)) (W7 m ρ c (Proc.devRef .tc main_v15)) = _
    rw [show W7 m ρ c (Proc.devRef .tc main_v14) = _ from s6_v14 _, show W7 m ρ c (Proc.devRef .tc main_v15) = _ from s6_v15 _]
  have e3 : W9 m ρ c (Proc.devRef .tc main_v35_0) = _ := (W9_arr m ρ c 3).trans (absorb_out3 (V8 m ρ) c)
  have e4 : W9 m ρ c (Proc.devRef .tc main_v35_1) = _ := (W9_arr m ρ c 4).trans (absorb_out4 (V8 m ρ) c)
  refine (congrArg (fun y => Reads (m := 4096) (n := 4096) y (fun i => net V (X i) 23)) (W10_arr m ρ c 7)).mpr ?_
  refine tile_out (V9 m ρ) c (Y := fun Z => net V Z 23) ?_ ?_
  · show Reads (W9 m ρ c (Proc.devRef .tc main_arg0)) X
    rw [W9_args m ρ c main_arg0 (by decide)]
    exact hx
  · intro x Z hZ
    show Reads (out2_7 (F := Ideal) x (W9 m ρ c (Proc.devRef .tc main_v30)) (W9 m ρ c (Proc.devRef .tc main_v31))
      (W9 m ρ c (Proc.devRef .tc main_v32)) (W9 m ρ c (Proc.devRef .tc main_v33)) (W9 m ρ c (Proc.devRef .tc main_v35_0))
      (W9 m ρ c (Proc.devRef .tc main_v35_1))) _
    rw [e3, e4]
    show Reads (out2_7 (F := Ideal) x _ _ _ _
      (out1_3 (W8 m ρ c (Proc.devRef .tc main_v34)) (W8 m ρ c (Proc.devRef .tc main_v22)) (W8 m ρ c (Proc.devRef .tc main_v29)))
      (out1_4 (W8 m ρ c (Proc.devRef .tc main_v34)) (W8 m ρ c (Proc.devRef .tc main_v22)) (W8 m ρ c (Proc.devRef .tc main_v29)))) _
    rw [e34, W8_of m ρ c main_v22 (by decide), W8_of m ρ c main_v29 (by decide),
      W9_of m ρ c main_v30 (by decide), W9_of m ρ c main_v31 (by decide), W9_of m ρ c main_v32 (by decide), W9_of m ρ c main_v33 (by decide),
      W8_of m ρ c main_v30 (by decide), W8_of m ρ c main_v31 (by decide), W8_of m ρ c main_v32 (by decide), W8_of m ρ c main_v33 (by decide),
      show W7 m ρ c (Proc.devRef .tc main_v22) = _ from s6_v22 _, show W7 m ρ c (Proc.devRef .tc main_v29) = _ from s6_v29 _,
      show W7 m ρ c (Proc.devRef .tc main_v30) = _ from s6_v30 _, show W7 m ρ c (Proc.devRef .tc main_v31) = _ from s6_v31 _,
      show W7 m ρ c (Proc.devRef .tc main_v32) = _ from s6_v32 _, show W7 m ρ c (Proc.devRef .tc main_v33) = _ from s6_v33 _]
    refine reads_tile hZ ((reads_four ra 0 (by omega) _).congr ?_) ((reads_four rb 0 (by omega) _).congr ?_)
      ((reads_four ra 6 (by omega) _).congr ?_) ((reads_four rb 6 (by omega) _).congr ?_) (ma.congr ?_) (mb.congr ?_)
      (reads_rowsPair (fun p => (oneRow_apply ra 4 (by omega) _ p).trans ?_) fun p => (oneRow_apply rb 4 (by omega) _ p).trans ?_)
      (reads_columnsPair (fun p => (oneRow_apply ra 5 (by omega) _ p).trans ?_) fun p => (oneRow_apply rb 5 (by omega) _ p).trans ?_)
    · intro r hr p _
      rw [Nat.zero_add, outer_low (by omega), Nat.mod_mod, keep]
    · intro r hr p _
      rw [Nat.zero_add, outer_low (by omega), Nat.mod_mod, carry]
    · intro r hr p _
      rw [show 6 + r = 5 + (1 + r) by omega, outer_high, show 18 + (1 + r) = 19 + r by omega, Nat.mod_mod, keep]
    · intro r hr p _
      rw [show 6 + r = 5 + (1 + r) by omega, outer_high, show 18 + (1 + r) = 19 + r by omega, Nat.mod_mod, carry]
    · intro p _ t _
      rw [Nat.mod_mod, keep]
    · intro p _ t _
      rw [Nat.mod_mod, carry]
    · rw [outer_low (by omega), Nat.mod_mod, keep]
    · rw [outer_low (by omega), Nat.mod_mod, carry]
    · rw [show outer 5 = 18 from outer_high 0, Nat.mod_mod, keep]
    · rw [show outer 5 = 18 from outer_high 0, Nat.mod_mod, carry]

end Boundaries

end Cert.Net
-- ==== Proof.RefLayer.lean ====
/- One layer of the reference over the reals: gather the sources, scale, and add into the targets, on the tables of the
   Benes network, is one layer of the network. -/
module

public import proofs.«01_k».proof.Proof.Readings
public import proofs.«01_k».proof.Proof.Gen.ReferenceIdeal.Run
public import Idealize.ShloMosaic.Lib.Routing.OpsPair
public import Idealize.ShloMosaic.Lib.DynamicIndex
public import Idealize.ShloMosaic.Lib.WordCmp
@[expose] public section

set_option maxRecDepth 16384

noncomputable section

namespace Cert.Net

open Idealize.ShloMosaic
open Idealize.ShloMosaic.ValueIdx (ix1 ix2 ix3 eq_ix2)
open Cert.ReferenceIdeal.Gen
open Idealize.ShloMosaic.TcCoe Idealize.ShloMosaic.StableHlo Idealize.SL.Sem Cert.ReferenceIdeal Cert.ReferenceIdeal.Value

/-- The source of entry k in a layer of distance s. -/
def source (s k : ℕ) : ℕ := k / (4 * s) * (2 * s) + k / (2 * s) % 2 * s + k % s

/-- The target of entry k in a layer of distance s. -/
def target (s k : ℕ) : ℕ := k / (4 * s) * (2 * s) + k % (2 * s)

/-- The distances are the powers of two up to 2048. -/
theorem stride_pow {l : ℕ} (h : l < 23) : ∃ j ≤ 11, stride l = 2 ^ j := by
  unfold stride
  split
  · exact ⟨_, by omega, rfl⟩
  · exact ⟨_, by omega, rfl⟩

section Places

variable {j p k h : ℕ} (hj : j ≤ 11) (hp : p < 4096)
include hj

/-- A place is an entry of the layer. -/
theorem place_fits (hp : p < 4096) (hh : h ≤ 1) : place (2 ^ j) p h < 8192 := by
  unfold place
  interval_cases j <;> simp only [Nat.reducePow, Nat.reduceMul] <;> omega

/-- The position away from a position is a position. -/
theorem swap_fits (hp : p < 4096) : swap (2 ^ j) p < 4096 := by
  unfold swap
  interval_cases j <;> simp only [Nat.reducePow] <;> split <;> omega

/-- A source is a position. -/
theorem source_fits (hk : k < 8192) : source (2 ^ j) k < 4096 := by
  unfold source
  interval_cases j <;> simp only [Nat.reducePow, Nat.reduceMul] <;> omega

/-- A target is a position. -/
theorem target_fits (hk : k < 8192) : target (2 ^ j) k < 4096 := by
  unfold target
  interval_cases j <;> simp only [Nat.reducePow, Nat.reduceMul] <;> omega

/-- The two entries whose target is p. -/
theorem target_eq_iff : target (2 ^ j) k = p ↔ k = place (2 ^ j) p (p / 2 ^ j % 2) ∨ k = place (2 ^ j) p (1 - p / 2 ^ j % 2) := by
  unfold target place
  interval_cases j <;> simp only [Nat.reducePow, Nat.reduceMul] <;> omega

/-- The source of the entry kept at p is p. -/
theorem source_kept : source (2 ^ j) (place (2 ^ j) p (p / 2 ^ j % 2)) = p := by
  have := Nat.mod_two_eq_zero_or_one p
  unfold source place
  interval_cases j <;> simp only [Nat.reducePow, Nat.reduceMul, Nat.div_one] <;> omega

/-- The source of the entry carried to p is the position away from p. -/
theorem source_carried : source (2 ^ j) (place (2 ^ j) p (1 - p / 2 ^ j % 2)) = swap (2 ^ j) p := by
  unfold source place swap
  interval_cases j <;> simp only [Nat.reducePow, Nat.reduceMul, Nat.div_one] <;> split <;> omega

/-- The two entries differ. -/
theorem places_ne : place (2 ^ j) p (p / 2 ^ j % 2) ≠ place (2 ^ j) p (1 - p / 2 ^ j % 2) := by
  unfold place
  interval_cases j <;> simp only [Nat.reducePow, Nat.reduceMul] <;> omega

end Places

/-- The reference's gather: entry (i, k) is the operand's (i, q), q the index at k. -/
theorem gather_columns (x : S4096x4096.Idx → Ideal .f32) (idx : IVec S8192x1 32) (i : Fin 4096) (k : Fin 8192) (q : Fin 4096)
    (hq : (idx (ix2 k 0)).toInt.toNat = q.val) :
    Host.gather gather_S4096x4096_S8192x1_S4096x8192_0_1_n_n_1_1_40961 x idx (ix2 i k) = x (ix2 i q) := by
  unfold Host.gather
  congr 1
  funext a
  refine Fin.ext ?_
  show gather_S4096x4096_S8192x1_S4096x8192_0_1_n_n_1_1_40961.start (ix2 i k) idx a
    + gather_S4096x4096_S8192x1_S4096x8192_0_1_n_n_1_1_40961.batchCoord (ix2 i k) a
    + gather_S4096x4096_S8192x1_S4096x8192_0_1_n_n_1_1_40961.offCoord (ix2 i k) a = _
  rw [GatherDims.batchCoord_eq_zero _ _ _ (List.not_mem_nil)]
  have h01 : a = (0 : Fin 2) ∨ a = (1 : Fin 2) := by
    match a with
    | ⟨0, _⟩ => exact Or.inl rfl
    | ⟨1, _⟩ => exact Or.inr rfl
  rcases h01 with rfl | rfl
  · unfold GatherDims.start GatherDims.offCoord
    rw [dif_neg (by decide), dif_pos (by decide)]
    simp only [Nat.zero_add, Nat.add_zero]
    rfl
  · rw [GatherDims.offCoord_eq_zero _ _ _ (by decide)]
    simp only [Nat.add_zero]
    unfold GatherDims.start
    rw [dif_pos (by decide)]
    have hsi : ∀ c, gather_S4096x4096_S8192x1_S4096x8192_0_1_n_n_1_1_40961.siIdx (ix2 i k) c = ix2 k 0 := by
      intro c
      funext b; refine Fin.ext ?_
      match b with
      | ⟨0, _⟩ => rfl
      | ⟨1, _⟩ => exact Nat.lt_one_iff.mp c.isLt
    rw [hsi, hq]
    exact Nat.min_eq_left (by show q.val ≤ 4096 - 1; omega)

/-- Where an update of the reference's scatter lands: row k, column i of the updates goes to the row its index names. -/
theorem scatter_lands_row (idx : IVec S8192x1 32) (k : Fin 8192) (i' i : Fin 4096) (p : Fin 4096) :
    scatter_S4096x4096_S8192x1_S8192x4096_1_0_0_1.resultIdx? (ix2 k i') idx = some (ix2 p i)
      ↔ (idx (ix2 k 0)).toInt = (p.val : Int) ∧ i' = i := by
  rw [Routing.resultIdx?_eq_some]
  have h0 : scatter_S4096x4096_S8192x1_S8192x4096_1_0_0_1.start (ix2 k i') idx 0 = (idx (ix2 k 0)).toInt := by
    unfold ScatterDims.start
    rw [dif_pos (by decide)]
    have hsi : ∀ c, scatter_S4096x4096_S8192x1_S8192x4096_1_0_0_1.siIdx (ix2 k i') c = ix2 k 0 := by
      intro c
      funext b; refine Fin.ext ?_
      match b with
      | ⟨0, _⟩ => rfl
      | ⟨1, _⟩ => exact Nat.lt_one_iff.mp c.isLt
    rw [hsi]
  have w0 : scatter_S4096x4096_S8192x1_S8192x4096_1_0_0_1.window (ix2 k i') 0 = 0 := by
    unfold ScatterDims.window
    rw [dif_neg (by decide)]
  have h1 : scatter_S4096x4096_S8192x1_S8192x4096_1_0_0_1.start (ix2 k i') idx 1 = 0 := by
    unfold ScatterDims.start
    rw [dif_neg (by decide)]
  have w1 : scatter_S4096x4096_S8192x1_S8192x4096_1_0_0_1.window (ix2 k i') 1 = i'.val := by
    unfold ScatterDims.window
    rw [dif_pos (by decide)]
    rfl
  constructor
  · intro h
    have a0 := h 0
    have a1 := h 1
    rw [h0, w0] at a0
    rw [h1, w1] at a1
    change _ = ((p.val : ℕ) : Int) at a0
    change _ = ((i.val : ℕ) : Int) at a1
    exact ⟨by omega, Fin.ext (by omega)⟩
  · rintro ⟨e, rfl⟩ a
    match a with
    | ⟨0, _⟩ =>
      refine (congrArg₂ (fun (u : Int) (v : ℕ) => u + (v : Int)) h0 w0).trans ?_
      rw [e]
      exact Int.add_zero _
    | ⟨1, _⟩ =>
      refine (congrArg₂ (fun (u : Int) (v : ℕ) => u + (v : Int)) h1 w1).trans ?_
      exact Int.zero_add _

/-- A target named by two rows of updates gets the sum of the two. -/
theorem scatter_two (x0 : S4096x4096.Idx → EReal) (idx : IVec S8192x1 32) (upd : S8192x4096.Idx → EReal) (p i : Fin 4096)
    (k0 k1 : Fin 8192) (hne : k0 ≠ k1) (h : ∀ k : Fin 8192, (idx (ix2 k 0)).toInt = (p.val : Int) ↔ k = k0 ∨ k = k1) :
    Ideal.hostScatterAdd scatter_S4096x4096_S8192x1_S8192x4096_1_0_0_1 x0 idx upd (ix2 p i)
      = x0 (ix2 p i) + (upd (ix2 k0 i) + upd (ix2 k1 i)) := by
  unfold Ideal.hostScatterAdd
  refine congrArg (fun y : EReal => x0 (ix2 p i) + y) ?_
  have hne' : (ix2 k0 i : S8192x4096.Idx) ≠ ix2 k1 i := fun e => hne (congrFun e 0)
  refine (Finset.sum_congr (Finset.ext fun u => ?_) fun _ _ => rfl).trans (Finset.sum_pair hne')
  obtain ⟨k, i', rfl⟩ : ∃ (k : Fin 8192) (i' : Fin 4096), u = ix2 k i' := ⟨u 0, u 1, eq_ix2 u⟩
  rw [Finset.mem_filter, Finset.mem_insert, Finset.mem_singleton, scatter_lands_row, h]
  constructor
  · rintro ⟨-, e | e, e'⟩
    · exact Or.inl (by rw [e, e'])
    · exact Or.inr (by rw [e, e'])
  · rintro (e | e)
    · exact ⟨Finset.mem_univ _, Or.inl (congrFun e 0), congrFun e 1⟩
    · exact ⟨Finset.mem_univ _, Or.inr (congrFun e 0), congrFun e 1⟩

/-- The start of a layer's row in a table: the layer's number, counted from the end when it is negative. -/
abbrev rowStart (v : IVec S_ 32) : Fin S23x8192.rank → Int := fun k =>
  (((![select (cmpi .slt v (constantI S_ 32 0#32)) (addi v (constantI S_ 32 23#32)) v,
    select (cmpi .slt (constantI S_ 32 0#32) (constantI S_ 32 0#32)) (addi (constantI S_ 32 0#32) (constantI S_ 32 8192#32))
      (constantI S_ 32 0#32)] : Fin 2 → IVec S_ 32)) k (Shape.Idx.first h_S_)).toInt

/-- A layer's row of a table, flat. -/
theorem row_apply {α : Type} (x : S23x8192.Idx → α) (l : Fin 23) (k : Fin 8192) :
    shapeCast S8192 (Host.dynamicSlice S1x8192 x (rowStart fun _ => BitVec.ofNat 32 l.val) sliceFits_S23x8192_S1x8192)
      shapeCasts_S1x8192_S8192 (ix1 k) = x (ix2 l k) := by
  have hl : (BitVec.ofNat 32 l.val).toInt = (l.val : Int) := toInt_ofNat_of_lt (by omega)
  have hsel : (select (cmpi .slt (fun _ => BitVec.ofNat 32 l.val) (constantI S_ 32 0#32))
      (addi (fun _ => BitVec.ofNat 32 l.val) (constantI S_ 32 23#32)) (fun _ => BitVec.ofNat 32 l.val)
      (Shape.Idx.first h_S_)).toInt = (l.val : Int) := by
    rw [select_slt_zero_of_nonneg _ _ _ _ (le_of_le_of_eq (Int.natCast_nonneg l.val) hl.symm)]
    exact hl
  have hfit : S23x8192.Slices ![l.val, 0] S1x8192 := by
    refine ⟨rfl, fun a => ?_⟩
    match a with
    | ⟨0, _⟩ => show l.val + 1 ≤ 23; omega
    | ⟨1, _⟩ => exact le_refl 8192
  rw [Host.dynamicSlice_eq_extractStridedSlice S1x8192 x _ ![l.val, 0] _ hfit (fun a => by
    match a with
    | ⟨0, _⟩ => exact hsel
    | ⟨1, _⟩ => rfl)]
  refine (shapeCast_apply _ _ _ (ix2 0 k) (by
    rw [Shape.rowMajor_val_one, Shape.rowMajor_val_two]
    show 0 * 8192 + k.val = k.val
    omega)).trans (extractStridedSlice_apply _ _ _ _ (ix2 l k) fun a => ?_)
  match a with
  | ⟨0, _⟩ => rfl
  | ⟨1, _⟩ => exact (Nat.zero_add _).symm

/-- The contributions of a layer, one row for each entry: the gathered columns, each scaledRows. -/
def scaledRows (x : FVec Ideal S4096x4096 .f32) (idx : IVec S8192 32) (w : FVec Ideal S8192 .f32) : FVec Ideal S8192x4096 .f32 :=
  transpose S8192x4096 [1, 0] (mulf (Host.gather gather_S4096x4096_S8192x1_S4096x8192_0_1_n_n_1_1_40961 x
    (broadcastInDim S8192x1 ![0] bcast_S8192_S8192x1_0 (select (cmpi .slt idx (broadcastInDim S8192 ![] bcast_S_S8192 (constantI S_ 32 0#32)))
      (addi idx (broadcastInDim S8192 ![] bcast_S_S8192 (constantI S_ 32 4096#32))) idx)))
    (broadcastInDim S4096x8192 ![0, 1] bcast_S1x8192_S4096x8192_0_1 (broadcastInDim S1x8192 ![1] bcast_S8192_S1x8192_1 w)))
    transposes_S4096x8192_S8192x4096_1_0

/-- One contribution: the source times the entry. -/
theorem scaledRows_apply {x : FVec Ideal S4096x4096 .f32} {X : ℕ → ℕ → ℝ} (hx : Reads (m := 4096) (n := 4096) x X) {idx : IVec S8192 32}
    {w : FVec Ideal S8192 .f32} (k : Fin 8192) (i q : Fin 4096) (v : ℝ) (ha : idx (ix1 k) = BitVec.ofNat 32 q.val)
    (hw : w (ix1 k) = ((v : ℝ) : EReal)) : scaledRows x idx w (ix2 k i) = ((v * X i q : ℝ) : EReal) := by
  have hq : (BitVec.ofNat 32 q.val).toInt = (q.val : Int) := toInt_ofNat_of_lt (by omega)
  unfold scaledRows
  refine (transpose_apply _ _ _ _ (ix2 i k) fun a => ?_).trans ?_
  · match a with
    | ⟨0, _⟩ => rfl
    | ⟨1, _⟩ => rfl
  refine (congrArg₂ (fun a b : EReal => a * b) ((gather_columns x _ i k q ?_).trans (hx i q)) (?_ : _ = ((v : ℝ) : EReal))).trans ?_
  · refine (congrArg (fun b : BitVec 32 => b.toInt.toNat) ((broadcastInDim_apply _ _ _ _ (ix1 k) fun a => ?_).trans
      ((select_slt_zero_of_nonneg idx _ _ (ix1 k) (by rw [ha, hq]; omega)).trans ha))).trans ?_
    · match a with
      | ⟨0, _⟩ => rfl
    · show (BitVec.ofNat 32 q.val).toInt.toNat = q.val
      rw [hq]
      exact Int.toNat_natCast _
  · refine (broadcastInDim_apply _ _ _ _ (ix2 0 k) fun a => ?_).trans ((broadcastInDim_apply _ _ _ _ (ix1 k) fun a => ?_).trans hw)
    · match a with
      | ⟨0, _⟩ => rfl
      | ⟨1, _⟩ => rfl
    · match a with
      | ⟨0, _⟩ => rfl
  · rw [← EReal.coe_mul, mul_comm]

/-- One step of the reference's loop, on finite contents and the tables of the network. -/
theorem reads_step (W : Valuation τ sig (Elt Ideal)) {X V : ℕ → ℕ → ℝ} {l : ℕ} (hl : l < 23)
    (hx : Reads (m := 4096) (n := 4096) (W (Proc.devRef .tc main_v0_5)) X)
    (hv : Reads (m := 23) (n := 8192) (W (Proc.devRef .tc main_v0_1)) V)
    (hn : W (Proc.devRef .tc main_v0_4) = fun _ => BitVec.ofNat 32 l)
    (hin : ∀ (l : Fin 23) (k : Fin 8192), W (Proc.devRef .tc main_v0_0) (ix2 l k) = BitVec.ofNat 32 (source (stride l) k))
    (hout : ∀ (l : Fin 23) (k : Fin 8192), W (Proc.devRef .tc main_v0_2) (ix2 l k) = BitVec.ofNat 32 (target (stride l) k)) :
    Reads (m := 4096) (n := 4096) (step_main_v0_5 W) (fun i => layer (stride l) (keep V l) (carry V l) (X i)) := by
  intro i p
  obtain ⟨j, hj, ej⟩ := stride_pow hl
  have e2 : res_main_while0b_v2 W = fun _ => BitVec.ofNat 32 l := hn
  have e18 : res_main_while0b_v18 W = fun _ => BitVec.ofNat 32 l := hn
  have e31 : res_main_while0b_v31 W = fun _ => BitVec.ofNat 32 l := hn
  have e10 : ∀ k : Fin 8192, res_main_while0b_v10 W (ix1 k) = BitVec.ofNat 32 (source (2 ^ j) k) := by
    intro k
    unfold res_main_while0b_v10
    rw [e2]
    refine (row_apply _ ⟨l, hl⟩ k).trans ?_
    rw [hin, ← ej]
  unfold step_main_v0_5
  rw [e18, e31]
  refine (transpose_apply _ _ _ _ (ix2 p i) fun a => ?_).trans ?_
  · match a with
    | ⟨0, _⟩ => rfl
    | ⟨1, _⟩ => rfl
  have hk0 : place (2 ^ j) p.val (p.val / 2 ^ j % 2) < 8192 := place_fits hj p.isLt (by omega)
  have hk1 : place (2 ^ j) p.val (1 - p.val / 2 ^ j % 2) < 8192 := place_fits hj p.isLt (by omega)
  have hrow : ∀ k : Fin 8192, shapeCast S8192 (Host.dynamicSlice S1x8192 (W (Proc.devRef .tc main_v0_1))
      (rowStart fun _ => BitVec.ofNat 32 l) sliceFits_S23x8192_S1x8192) shapeCasts_S1x8192_S8192 (ix1 k) = ((V l k : ℝ) : EReal) :=
    fun k => (row_apply _ ⟨l, hl⟩ k).trans (hv _ _)
  refine (scatter_two _ _ (scaledRows (W (Proc.devRef .tc main_v0_5)) (res_main_while0b_v10 W) (shapeCast S8192
    (Host.dynamicSlice S1x8192 (W (Proc.devRef .tc main_v0_1)) (rowStart fun _ => BitVec.ofNat 32 l) sliceFits_S23x8192_S1x8192)
    shapeCasts_S1x8192_S8192)) p i ⟨_, hk0⟩ ⟨_, hk1⟩ (fun e => places_ne hj (congrArg Fin.val e)) fun k => ?_).trans ?_
  · have hb := (broadcastInDim_apply ![0] bcast_S8192_S8192x1_0 (shapeCast S8192 (Host.dynamicSlice S1x8192 (W (Proc.devRef .tc main_v0_2))
      (rowStart fun _ => BitVec.ofNat 32 l) sliceFits_S23x8192_S1x8192) shapeCasts_S1x8192_S8192) (ix2 k 0) (ix1 k) (fun a => by
        match a with
        | ⟨0, _⟩ => rfl)).trans ((row_apply _ ⟨l, hl⟩ k).trans (hout _ _))
    refine (Iff.of_eq (congrArg (fun b : BitVec 32 => b.toInt = (p.val : Int)) hb)).trans ?_
    have ht := target_fits hj k.isLt
    show (BitVec.ofNat 32 (target (stride l) k.val)).toInt = _ ↔ _
    rw [ej, toInt_ofNat_of_lt (by omega), Fin.ext_iff, Fin.ext_iff]
    show _ ↔ k.val = place (2 ^ j) p.val (p.val / 2 ^ j % 2) ∨ k.val = place (2 ^ j) p.val (1 - p.val / 2 ^ j % 2)
    rw [← target_eq_iff hj]
    omega
  · rw [scaledRows_apply hx _ i p _ ((e10 _).trans (congrArg _ (source_kept hj))) (hrow _),
      scaledRows_apply hx _ i ⟨_, swap_fits hj p.isLt⟩ _ ((e10 _).trans (congrArg _ (source_carried hj))) (hrow _)]
    refine (congrArg (fun z : EReal => z + _) (show _ = (0 : EReal) from ?_)).trans ?_
    · show Ideal.ofBits .f32 0#32 = 0
      simp [Ideal.ofBits, Ideal.ieee]
    · rw [zero_add, ← EReal.coe_add]
      show _ = ((keep V l p * X i p + carry V l p * X i (swap (stride l) p) : ℝ) : EReal)
      rw [keep, carry, ej]

end Cert.Net
-- ==== Proof.RefResult.lean ====
/- The reference's whole loop over the reals: twenty-three layers of the network. -/
module

public import proofs.«01_k».proof.Proof.RefLayer
@[expose] public section

set_option maxRecDepth 16384

noncomputable section

namespace Cert.Net

open Idealize.ShloMosaic
open Idealize.ShloMosaic.ValueIdx (ix1 ix2 ix3 eq_ix2)
open Cert.ReferenceIdeal.Gen
open Idealize.ShloMosaic.TcCoe Idealize.ShloMosaic.StableHlo Idealize.SL.Sem Cert.ReferenceIdeal Cert.ReferenceIdeal.Value

/-- After n steps the loop's array holds the first n layers; the layer counter is n and the tables are as they were. -/
theorem reads_steps (W : Valuation τ sig (Elt Ideal)) {X V : ℕ → ℕ → ℝ}
    (hx : Reads (m := 4096) (n := 4096) (W (Proc.devRef .tc main_v0_5)) X)
    (hv : Reads (m := 23) (n := 8192) (W (Proc.devRef .tc main_v0_1)) V)
    (hn : W (Proc.devRef .tc main_v0_4) = fun _ => BitVec.ofNat 32 0)
    (hin : ∀ (l : Fin 23) (k : Fin 8192), W (Proc.devRef .tc main_v0_0) (ix2 l k) = BitVec.ofNat 32 (source (stride l) k))
    (hout : ∀ (l : Fin 23) (k : Fin 8192), W (Proc.devRef .tc main_v0_2) (ix2 l k) = BitVec.ofNat 32 (target (stride l) k)) :
    ∀ n ≤ 23, (STEP^[n] W) (Proc.devRef .tc main_v0_0) = W (Proc.devRef .tc main_v0_0)
      ∧ (STEP^[n] W) (Proc.devRef .tc main_v0_1) = W (Proc.devRef .tc main_v0_1)
      ∧ (STEP^[n] W) (Proc.devRef .tc main_v0_2) = W (Proc.devRef .tc main_v0_2)
      ∧ (STEP^[n] W) (Proc.devRef .tc main_v0_4) = (fun _ => BitVec.ofNat 32 n)
      ∧ Reads (m := 4096) (n := 4096) ((STEP^[n] W) (Proc.devRef .tc main_v0_5)) (fun i => net V (X i) n) := by
  intro n
  induction n with
  | zero => exact fun _ => ⟨rfl, rfl, rfl, hn, hx⟩
  | succ n ih =>
    intro hle
    obtain ⟨h0, h1, h2, h4, h5⟩ := ih (by omega)
    rw [Function.iterate_succ_apply']
    refine ⟨(STEP_main_v0_0 _).trans h0, (STEP_main_v0_1 _).trans h1, (STEP_main_v0_2 _).trans h2, (STEP_main_v0_4 _).trans ?_, ?_⟩
    · unfold step_main_v0_4
      rw [h4]
      funext i
      exact (BitVec.ofNat_add n 1).symm
    · rw [STEP_main_v0_5]
      exact reads_step _ (by omega) h5 (h1 ▸ hv) h4 (fun l k => (congrFun h0 _).trans (hin l k)) (fun l k => (congrFun h2 _).trans (hout l k))

variable (m : (ℓ : Loc nD τ sig) → Buf (Elt Ideal) ℓ) (c : Dev nD)

/-- At the entry of the loop: the table of sources is the argument, -/
theorem entry_in : entryContents preI m c (Proc.devRef .tc main_v0_0) = m ((c.tc : Thread nD τ).loc main_arg2) := by
  simp only [entryContents, afterL_cons, afterL_nil]
  after_reads_simp
  rfl

/-- … the coefficients are the argument, -/
theorem entry_values : entryContents preI m c (Proc.devRef .tc main_v0_1) = m ((c.tc : Thread nD τ).loc main_arg1) := by
  simp only [entryContents, afterL_cons, afterL_nil]
  after_reads_simp
  rfl

/-- … the table of targets is the argument, -/
theorem entry_out : entryContents preI m c (Proc.devRef .tc main_v0_2) = m ((c.tc : Thread nD τ).loc main_arg3) := by
  simp only [entryContents, afterL_cons, afterL_nil]
  after_reads_simp
  rfl

/-- … the layer counter is zero, -/
theorem entry_count : entryContents preI m c (Proc.devRef .tc main_v0_4) = fun _ => BitVec.ofNat 32 0 := by
  simp only [entryContents, afterL_cons, afterL_nil]
  after_reads_simp
  rfl

/-- … and the array is the input. -/
theorem entry_x : entryContents preI m c (Proc.devRef .tc main_v0_5) = m ((c.tc : Thread nD τ).loc main_arg0) := by
  simp only [entryContents, afterL_cons, afterL_nil]
  after_reads_simp
  rfl

/-- What the reference leaves in its result: every row of the input through the twenty-three layers. -/
theorem reads_reference {X V : ℕ → ℕ → ℝ} (hx : Reads (m := 4096) (n := 4096) (m ((c.tc : Thread nD τ).loc main_arg0)) X)
    (hv : Reads (m := 23) (n := 8192) (m ((c.tc : Thread nD τ).loc main_arg1)) V)
    (hin : ∀ (l : Fin 23) (k : Fin 8192), m ((c.tc : Thread nD τ).loc main_arg2) (ix2 l k) = BitVec.ofNat 32 (source (stride l) k))
    (hout : ∀ (l : Fin 23) (k : Fin 8192), m ((c.tc : Thread nD τ).loc main_arg3) (ix2 l k) = BitVec.ofNat 32 (target (stride l) k)) :
    Reads (m := 4096) (n := 4096) ((STEP^[23] (entryContents preI m c)) (Proc.devRef .tc main_v0_5)) (fun i => net V (X i) 23) :=
  (reads_steps (entryContents preI m c) ((entry_x m c).symm ▸ hx) ((entry_values m c).symm ▸ hv) (entry_count m c)
    (fun l k => (congrFun (entry_in m c) _).trans (hin l k)) (fun l k => (congrFun (entry_out m c) _).trans (hout l k)) 23 le_rfl).2.2.2.2

end Cert.Net
-- ==== Proof.Tables.lean ====
/- The precondition read: finite inputs and coefficients, and the index tables of the Benes network. -/
module

public import proofs.«01_k».proof.Proof.RefLayer
public import proofs.«01_k».proof.Pre_finite_on_benes_tables
@[expose] public section

set_option maxRecDepth 16384

noncomputable section

namespace Cert.Net

open Idealize.ShloMosaic
open Idealize.ShloMosaic.ValueIdx (ix1 ix2 ix3 eq_ix2)

/-- The shape relations the precondition states. -/
theorem preFacts : Cert.Pre_finite_on_benes_tables.Facts := ⟨by decide, by decide⟩

/-- The distance of a layer as the precondition counts it: how far its number is from eleven. -/
theorem absi_layer : ∀ l : Fin 23, IntOp.absi (BitVec.ofNat 32 l.val - 11#32) = BitVec.ofNat 32 (if l.val ≤ 11 then 11 - l.val else l.val - 11) := by
  decide +kernel

/-- Both tables, one entry, as words. -/
def quadWord (t k : BitVec 32) : BitVec 32 := IntOp.shli .host (IntOp.shrui .host k (t + 2#32)) (t + 1#32)
/-- The source of an entry, as the precondition computes it. -/
def sourceWord (t k : BitVec 32) : BitVec 32 :=
  quadWord t k + IntOp.shli .host (IntOp.shrui .host k (t + 1#32) &&& 1#32) t + (k &&& (IntOp.shli .host 1#32 t - 1#32))
/-- The target of an entry, as the precondition computes it. -/
def targetWord (t k : BitVec 32) : BitVec 32 := quadWord t k + (k &&& (IntOp.shli .host 1#32 (t + 1#32) - 1#32))

/-- Masking the low bits is a remainder. -/
theorem low_bits (k j : ℕ) : k &&& (2 ^ j - 1) = k % 2 ^ j := Nat.and_two_pow_sub_one_eq_mod k j

/-- The same of words. -/
theorem toNat_low (k : BitVec 32) (j : ℕ) (hj : j < 32) : (k &&& BitVec.ofNat 32 (2 ^ j - 1)).toNat = k.toNat % 2 ^ j := by
  rw [BitVec.toNat_and, BitVec.toNat_ofNat, Nat.mod_eq_of_lt, low_bits]
  have : 2 ^ j ≤ 2 ^ 32 := Nat.pow_le_pow_right (by omega) (by omega)
  have : 0 < 2 ^ j := Nat.two_pow_pos j
  omega

/-- A left shift of a word, as a number. -/
theorem shli_toNat (x : BitVec 32) (j : ℕ) (hj : j < 32) : (IntOp.shli .host x (BitVec.ofNat 32 j)).toNat = x.toNat * 2 ^ j % 2 ^ 32 := by
  simp [IntOp.shli, Nat.shiftLeft_eq, Nat.mod_eq_of_lt (show j < 4294967296 by omega), hj]

/-- A right shift of a word, as a number. -/
theorem shrui_toNat (x : BitVec 32) (j : ℕ) (hj : j < 32) : (IntOp.shrui .host x (BitVec.ofNat 32 j)).toNat = x.toNat / 2 ^ j := by
  simp [IntOp.shrui, Nat.shiftRight_eq_div_pow, Nat.mod_eq_of_lt (show j < 4294967296 by omega), hj]

section Words

variable {j k : ℕ} (hj : j ≤ 11) (hk : k < 8192)
include hj hk

/-- The first part of both tables, as a number. -/
theorem quad_toNat : (quadWord (BitVec.ofNat 32 j) (BitVec.ofNat 32 k)).toNat = k / (4 * 2 ^ j) * (2 * 2 ^ j) := by
  unfold quadWord
  rw [← BitVec.ofNat_add, ← BitVec.ofNat_add, shli_toNat _ _ (by omega), shrui_toNat _ _ (by omega), BitVec.toNat_ofNat]
  interval_cases j <;> simp only [Nat.reducePow, Nat.reduceAdd, Nat.reduceMul] <;> omega

/-- The mask of the low bits. -/
theorem ones_word {n : ℕ} (hn : n ≤ 12) : IntOp.shli .host 1#32 (BitVec.ofNat 32 n) - 1#32 = BitVec.ofNat 32 (2 ^ n - 1) := by
  clear hj hk
  revert hn
  revert n
  decide +kernel

/-- The middle part of the sources does not overflow, -/
theorem bit_fits : k / 2 ^ (j + 1) % 2 ^ 1 * 2 ^ j < 2 ^ 32 := by
  clear hk
  interval_cases j <;> simp only [Nat.reducePow, Nat.reduceAdd] <;> omega

/-- … nor does its sum with the first part. -/
theorem head_fits : k / (4 * 2 ^ j) * (2 * 2 ^ j) + k / 2 ^ (j + 1) % 2 ^ 1 * 2 ^ j < 2 ^ 32 := by
  interval_cases j <;> simp only [Nat.reducePow, Nat.reduceAdd, Nat.reduceMul] <;> omega

/-- The word of a source is the source. -/
theorem source_word : sourceWord (BitVec.ofNat 32 j) (BitVec.ofNat 32 k) = BitVec.ofNat 32 (source (2 ^ j) k) := by
  apply BitVec.eq_of_toNat_eq
  unfold sourceWord
  rw [ones_word hj hk (by omega), BitVec.toNat_add, BitVec.toNat_add, quad_toNat hj hk, toNat_low _ _ (by omega), shli_toNat _ _ (by omega),
    ← BitVec.ofNat_add, show (1#32 : BitVec 32) = BitVec.ofNat 32 (2 ^ 1 - 1) from rfl, toNat_low _ _ (by omega), shrui_toNat _ _ (by omega),
    BitVec.toNat_ofNat, BitVec.toNat_ofNat, Nat.mod_eq_of_lt (show k < 2 ^ 32 by omega), Nat.mod_eq_of_lt (bit_fits hj hk),
    Nat.mod_eq_of_lt (head_fits hj hk)]
  refine congrArg (· % 2 ^ 32) ?_
  unfold source
  interval_cases j <;> simp only [Nat.reducePow, Nat.reduceAdd, Nat.reduceMul]

/-- The word of a target is the target. -/
theorem target_word : targetWord (BitVec.ofNat 32 j) (BitVec.ofNat 32 k) = BitVec.ofNat 32 (target (2 ^ j) k) := by
  apply BitVec.eq_of_toNat_eq
  unfold targetWord
  rw [← BitVec.ofNat_add, ones_word hj hk (by omega), BitVec.toNat_add, quad_toNat hj hk, toNat_low _ _ (by omega), BitVec.toNat_ofNat,
    BitVec.toNat_ofNat]
  unfold target
  interval_cases j <;> simp only [Nat.reducePow, Nat.reduceAdd, Nat.reduceMul] <;> omega

end Words

/-- An extended real whose absolute value is below infinity is a real. -/
theorem real_of_below {y : EReal} (h : Ideal.cmp .olt (max y (-y)) (Ideal.ofBits .f32 0x7F800000#32) = 1#1) :
    y = ((y.toReal : ℝ) : EReal) := by
  rw [show Ideal.ofBits .f32 0x7F800000#32 = (⊤ : EReal) by simp [Ideal.ofBits, Ideal.ieee]] at h
  induction y with
  | bot => simp [Ideal.cmp] at h
  | top => simp [Ideal.cmp] at h
  | coe r => rfl

/-- Two words the precondition finds equal are equal. -/
theorem eq_of_cmpi {a b : BitVec 32} (h : IntOp.cmpi .eq a b = 1#1) : a = b := by
  by_contra hne
  rw [show IntOp.cmpi .eq a b = BitVec.ofBool (a == b) from rfl, beq_eq_false_iff_ne.mpr hne] at h
  exact absurd h (by decide)

section Precondition

open Cert.Pre_finite_on_benes_tables

variable [Facts] (x : FVec Ideal S4096x4096 .f32) (v : FVec Ideal S23x8192 .f32) (a b : IVec S23x8192 32)

/-- Under the precondition the input is an array of reals, -/
theorem pre_x (h : (fn (F := Ideal) x v a b).1 = fun _ => 1#1) : Reads (m := 4096) (n := 4096) x (fun i j =>
    if h : i < 4096 ∧ j < 4096 then (x (ix2 ⟨i, h.1⟩ ⟨j, h.2⟩)).toReal else 0) := by
  intro i j
  beta_reduce
  rw [dif_pos (show i.val < 4096 ∧ j.val < 4096 from ⟨i.isLt, j.isLt⟩)]
  exact real_of_below (congrFun h (ix2 i j))

/-- … the coefficients are reals, -/
theorem pre_v (h : (fn (F := Ideal) x v a b).2.1 = fun _ => 1#1) : Reads (m := 23) (n := 8192) v (fun i j =>
    if h : i < 23 ∧ j < 8192 then (v (ix2 ⟨i, h.1⟩ ⟨j, h.2⟩)).toReal else 0) := by
  intro i j
  beta_reduce
  rw [dif_pos (show i.val < 23 ∧ j.val < 8192 from ⟨i.isLt, j.isLt⟩)]
  exact real_of_below (congrFun h (ix2 i j))

/-- … the first table holds the sources, -/
theorem pre_in (h : (fn (F := Ideal) x v a b).2.2.1 = fun _ => 1#1) (l : Fin 23) (k : Fin 8192) :
    a (ix2 l k) = BitVec.ofNat 32 (source (stride l) k) := by
  have e := eq_of_cmpi (show IntOp.cmpi .eq (a (ix2 l k)) (sourceWord (IntOp.absi (BitVec.ofNat 32 l.val - 11#32)) (BitVec.ofNat 32 k.val)) = 1#1
    from congrFun h (ix2 l k))
  rw [absi_layer, source_word (by split <;> omega) k.isLt] at e
  exact e

/-- … and the second the targets. -/
theorem pre_out (h : (fn (F := Ideal) x v a b).2.2.2 = fun _ => 1#1) (l : Fin 23) (k : Fin 8192) :
    b (ix2 l k) = BitVec.ofNat 32 (target (stride l) k) := by
  have e := eq_of_cmpi (show IntOp.cmpi .eq (b (ix2 l k)) (targetWord (IntOp.absi (BitVec.ofNat 32 l.val - 11#32)) (BitVec.ofNat 32 k.val)) = 1#1
    from congrFun h (ix2 l k))
  rw [absi_layer, target_word (by split <;> omega) k.isLt] at e
  exact e

end Precondition

end Cert.Net
-- ==== Proof.Claims.lean ====
/- The value claim: the kernel and the reference leave the same array, read as the same twenty-three layers. -/
module

public import proofs.«01_k».proof.Defs
public import proofs.«01_k».proof.Proof.Arrays
public import proofs.«01_k».proof.Proof.RefResult
public import proofs.«01_k».proof.Proof.Tables
public import Idealize.ShloMosaic.Adequacy
public import Idealize.ShloMosaic.Init
@[expose] public section

noncomputable section

namespace Cert.Net

open Idealize.ShloMosaic hiding ix1 ix2 ix3 eq_ix2
open Idealize.SL.Sem
open Idealize.ShloMosaic.ValueIdx (ix2 eq_ix2)

/-- Two arrays that read as the same numbers are the same array. -/
theorem Reads.unique {M N : ℕ} {x y : FVec Ideal (Mat M N) .f32} {X : ℕ → ℕ → ℝ} (hx : Reads x X) (hy : Reads y X) : x = y := by
  funext u
  obtain ⟨i, j, rfl⟩ : ∃ (i : Fin M) (j : Fin N), u = ix2 i j := ⟨u 0, u 1, eq_ix2 u⟩
  exact (hx i j).trans (hy i j).symm

/-- The reference runs, keeps its arguments and declares no semaphore. -/
theorem frame_reference (hR : Cert.ReferenceIdeal.Facts) : Cert.quiescent_ReferenceIdeal (hReferenceIdeal := hR) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's. -/
theorem value_claim : Cert.algebraic_KernelIdeal_ReferenceIdeal_pre_finite_on_benes_tables
    (hKernelIdeal := Cert.KernelIdeal.Gen.facts) (hReferenceIdeal := Cert.ReferenceIdeal.Gen.facts)
    (hPre_finite_on_benes_tables := preFacts) := by
  intro m g m' g' hpre hargs
  refine ⟨fun c => Cert.KernelIdeal.Gen.W10 m g c (Proc.devRef .tc Cert.KernelIdeal.main_v36), ?_, ?_⟩
  · exact (θ_run Cert.KernelIdeal.defs _ _).mono (fun r h => h.1) (kernel_run (F := Ideal) m g)
  · refine (θ_run Cert.ReferenceIdeal.defs _ _).mono (fun r h c => ⟨(h c).1.trans ?_, (h c).2⟩)
      (Cert.ReferenceIdeal.Value.run (F := Ideal) m' g')
    haveI := preFacts
    obtain ⟨p0, p1, p2, p3⟩ := hpre c
    obtain ⟨a0, a1, a2, a3⟩ := hargs c
    have hx := pre_x _ _ _ _ p0
    have hv := pre_v _ _ _ _ p1
    refine Reads.unique (reads_reference m' c (a0.symm ▸ hx) (a1.symm ▸ hv) (fun l k => (congrFun a2 _).trans (pre_in _ _ _ _ p2 l k))
      fun l k => (congrFun a3 _).trans (pre_out _ _ _ _ p3 l k)) (reads_result m g c hx hv)

end Cert.Net
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The claims: the three frames, the idealization (no operation rewritten), and the value claim. -/
theorem claim : Cert.Claim :=
  ⟨Cert.Kernel.Gen.facts, Cert.KernelIdeal.Gen.facts, Cert.ReferenceIdeal.Gen.facts, Cert.Net.preFacts,
    fun m ρ _ => Cert.Kernel.Gen.frame m ρ,
    fun m ρ _ => Cert.KernelIdeal.Gen.frame m ρ,
    fun m ρ _ => Cert.KernelIdeal.Gen.frame m ρ,
    Cert.Net.frame_reference _,
    fun m ρ _ => Cert.Net.frame_reference _ m ρ trivial,
    trivial,
    Cert.Net.value_claim⟩

end Cert.Proof

end
